-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x5120 : Shape := ⟨3, ![96, 1, 5120]⟩
abbrev S5120 : Shape := ⟨1, ![5120]⟩
abbrev S96x1 : Shape := ⟨2, ![96, 1]⟩
abbrev S5120x7680 : Shape := ⟨2, ![5120, 7680]⟩
abbrev S7680 : Shape := ⟨1, ![7680]⟩
abbrev S96x5120 : Shape := ⟨2, ![96, 5120]⟩
abbrev S1x5120 : Shape := ⟨2, ![1, 5120]⟩
abbrev S1x96 : Shape := ⟨2, ![1, 96]⟩
abbrev S20x96x128 : Shape := ⟨3, ![20, 96, 128]⟩
abbrev S15x5120x512 : Shape := ⟨3, ![15, 5120, 512]⟩
abbrev S96x128 : Shape := ⟨2, ![96, 128]⟩
abbrev S60x96x128 : Shape := ⟨3, ![60, 96, 128]⟩
abbrev S4 : Shape := ⟨1, ![4]⟩
abbrev S15 : Shape := ⟨1, ![15]⟩
abbrev S_ : Shape := ⟨0, ![]⟩
abbrev S1 : Shape := ⟨1, ![1]⟩
abbrev S1x5120x512 : Shape := ⟨3, ![1, 5120, 512]⟩
abbrev S5120x512 : Shape := ⟨2, ![5120, 512]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S96x96 : Shape := ⟨2, ![96, 96]⟩
abbrev S96 : Shape := ⟨1, ![96]⟩
abbrev S1x128 : Shape := ⟨2, ![1, 128]⟩
abbrev S96x512 : Shape := ⟨2, ![96, 512]⟩
abbrev S128 : Shape := ⟨1, ![128]⟩
abbrev S1x96x128 : Shape := ⟨3, ![1, 96, 128]⟩
abbrev S4x96x128 : Shape := ⟨3, ![4, 96, 128]⟩
abbrev S96x20x128 : Shape := ⟨3, ![96, 20, 128]⟩
abbrev S96x1x20x128 : Shape := ⟨4, ![96, 1, 20, 128]⟩
abbrev S96x1x1 : Shape := ⟨3, ![96, 1, 1]⟩

abbrev nBuf : Space → Nat
  | .hbm => 21
  | .vmem => 11
  | .smem => 0
  | _ => 0

abbrev bufTy : (tb : Table) → Fin (tcTables nBuf tb) → BufTy
  | .hbm, ⟨0, _⟩ => ⟨S96x1x5120, .bf16⟩
  | .hbm, ⟨1, _⟩ => ⟨S5120, .f32⟩
  | .hbm, ⟨2, _⟩ => ⟨S96x1, .i32⟩
  | .hbm, ⟨3, _⟩ => ⟨S5120x7680, .fp8e4m3⟩
  | .hbm, ⟨4, _⟩ => ⟨S7680, .f32⟩
  | .hbm, ⟨5, _⟩ => ⟨S96x5120, .bf16⟩
  | .hbm, ⟨6, _⟩ => ⟨S1x5120, .f32⟩
  | .hbm, ⟨7, _⟩ => ⟨S1x96, .i32⟩
  | .hbm, ⟨8, _⟩ => ⟨S20x96x128, .bf16⟩
  | .hbm, ⟨9, _⟩ => ⟨S20x96x128, .bf16⟩
  | .hbm, ⟨10, _⟩ => ⟨S20x96x128, .bf16⟩
  | .hbm, ⟨11, _⟩ => ⟨S96x5120, .fp8e4m3⟩
  | .hbm, ⟨12, _⟩ => ⟨S1x96, .f32⟩
  | .hbm, ⟨13, _⟩ => ⟨S96x20x128, .bf16⟩
  | .hbm, ⟨14, _⟩ => ⟨S96x1x20x128, .bf16⟩
  | .hbm, ⟨15, _⟩ => ⟨S96x20x128, .bf16⟩
  | .hbm, ⟨16, _⟩ => ⟨S96x1x20x128, .bf16⟩
  | .hbm, ⟨17, _⟩ => ⟨S96x20x128, .bf16⟩
  | .hbm, ⟨18, _⟩ => ⟨S96x1x20x128, .bf16⟩
  | .hbm, ⟨19, _⟩ => ⟨S96x1x5120, .fp8e4m3⟩
  | .hbm, ⟨20, _⟩ => ⟨S96x1x1, .f32⟩
  | .local _ .vmem, ⟨0, _⟩ => ⟨S96x5120, .bf16⟩
  | .local _ .vmem, ⟨1, _⟩ => ⟨S1x5120, .f32⟩
  | .local _ .vmem, ⟨2, _⟩ => ⟨S1x96, .i32⟩
  | .local _ .vmem, ⟨3, _⟩ => ⟨S7680, .f32⟩
  | .local _ .vmem, ⟨4, _⟩ => ⟨S15x5120x512, .fp8e4m3⟩
  | .local _ .vmem, ⟨5, _⟩ => ⟨S96x5120, .fp8e4m3⟩
  | .local _ .vmem, ⟨6, _⟩ => ⟨S96x128, .f32⟩
  | .local _ .vmem, ⟨7, _⟩ => ⟨S1x96, .f32⟩
  | .local _ .vmem, ⟨8, _⟩ => ⟨S96x128, .f32⟩
  | .local _ .vmem, ⟨9, _⟩ => ⟨S96x128, .f32⟩
  | .local _ .vmem, ⟨10, _⟩ => ⟨S60x96x128, .bf16⟩
  | _, _ => ⟨S96x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩

abbrev nD : Nat := 1
abbrev τ : Topo := Topo.v7x

variable {F : FTy → Type} [FloatOps F]

abbrev grid0 : Pipeline.Grid := .none
-- ==== ReferenceIdeal.lean ====
abbrev S96x1x5120 : Shape := ⟨3, ![96, 1, 5120]⟩
abbrev S5120 : Shape := ⟨1, ![5120]⟩
abbrev S96x1 : Shape := ⟨2, ![96, 1]⟩
abbrev S5120x7680 : Shape := ⟨2, ![5120, 7680]⟩
abbrev S7680 : Shape := ⟨1, ![7680]⟩
abbrev S96x5120 : Shape := ⟨2, ![96, 5120]⟩
abbrev S_ : Shape := ⟨0, ![]⟩
abbrev S96 : Shape := ⟨1, ![96]⟩
abbrev S1x5120 : Shape := ⟨2, ![1, 5120]⟩
abbrev S254 : Shape := ⟨1, ![254]⟩
abbrev S1x254 : Shape := ⟨2, ![1, 254]⟩
abbrev S96x254 : Shape := ⟨2, ![96, 254]⟩
abbrev S96x7680 : Shape := ⟨2, ![96, 7680]⟩
abbrev S1x7680 : Shape := ⟨2, ![1, 7680]⟩
abbrev S96x2560 : Shape := ⟨2, ![96, 2560]⟩
abbrev S96x1x20x128 : Shape := ⟨4, ![96, 1, 20, 128]⟩
abbrev S64 : Shape := ⟨1, ![64]⟩
abbrev S96x1x1 : Shape := ⟨3, ![96, 1, 1]⟩
abbrev S1x1x64 : Shape := ⟨3, ![1, 1, 64]⟩
abbrev S96x1x64 : Shape := ⟨3, ![96, 1, 64]⟩
abbrev S96x1x1x64 : Shape := ⟨4, ![96, 1, 1, 64]⟩
abbrev S96x1x20x64 : Shape := ⟨4, ![96, 1, 20, 64]⟩

abbrev nBuf : Space → Nat
  | .hbm => 147
  | .vmem => 5
  | .smem => 0
  | _ => 0

abbrev hbmTy0_0 (i : Nat) : BufTy := match i % 128 with
  | 0 => ⟨S96x1x5120, .bf16⟩
  | 1 => ⟨S5120, .f32⟩
  | 2 => ⟨S96x1, .i32⟩
  | 3 => ⟨S5120x7680, .fp8e4m3⟩
  | 4 => ⟨S7680, .f32⟩
  | 5 => ⟨S96x5120, .bf16⟩
  | 6 => ⟨S96x5120, .f32⟩
  | 7 => ⟨S96x5120, .f32⟩
  | 8 => ⟨S_, .f32⟩
  | 9 => ⟨S96, .f32⟩
  | 10 => ⟨S96x1, .f32⟩
  | 11 => ⟨S_, .f32⟩
  | 12 => ⟨S96x1, .f32⟩
  | 13 => ⟨S96x1, .f32⟩
  | 14 => ⟨S_, .f32⟩
  | 15 => ⟨S96x1, .f32⟩
  | 16 => ⟨S96x1, .f32⟩
  | 17 => ⟨S96x1, .f32⟩
  | 18 => ⟨S96x5120, .f32⟩
  | 19 => ⟨S96x5120, .f32⟩
  | 20 => ⟨S1x5120, .f32⟩
  | 21 => ⟨S96x5120, .f32⟩
  | 22 => ⟨S96x5120, .f32⟩
  | 23 => ⟨S96x5120, .f32⟩
  | 24 => ⟨S_, .f32⟩
  | 25 => ⟨S96, .f32⟩
  | 26 => ⟨S96x1, .f32⟩
  | 27 => ⟨S_, .f32⟩
  | 28 => ⟨S96x1, .f32⟩
  | 29 => ⟨S96x1, .f32⟩
  | 30 => ⟨S254, .f32⟩
  | 31 => ⟨S_, .f32⟩
  | 32 => ⟨S254, .f32⟩
  | 33 => ⟨S254, .f32⟩
  | 34 => ⟨S_, .f32⟩
  | 35 => ⟨S254, .f32⟩
  | 36 => ⟨S254, .f32⟩
  | 37 => ⟨S1x254, .f32⟩
  | 38 => ⟨S96x254, .f32⟩
  | 39 => ⟨S96x254, .f32⟩
  | 40 => ⟨S96x254, .i1⟩
  | 41 => ⟨S_, .i32⟩
  | 42 => ⟨S_, .i32⟩
  | 43 => ⟨S96x254, .i32⟩
  | 44 => ⟨S96x254, .i32⟩
  | 45 => ⟨S96x254, .i32⟩
  | 46 => ⟨S96x254, .i32⟩
  | 47 => ⟨S_, .i32⟩
  | 48 => ⟨S96, .i32⟩
  | 49 => ⟨S96x1, .i32⟩
  | 50 => ⟨S_, .i32⟩
  | 51 => ⟨S96x1, .i32⟩
  | 52 => ⟨S96x1, .i1⟩
  | 53 => ⟨S_, .f32⟩
  | 54 => ⟨S96x1, .f32⟩
  | 55 => ⟨S96x1, .i1⟩
  | 56 => ⟨S96x1, .i1⟩
  | 57 => ⟨S_, .i32⟩
  | 58 => ⟨S96x1, .i32⟩
  | 59 => ⟨S96x1, .i32⟩
  | 60 => ⟨S_, .i32⟩
  | 61 => ⟨S_, .i32⟩
  | 62 => ⟨S96x1, .i32⟩
  | 63 => ⟨S96x1, .i32⟩
  | 64 => ⟨S_, .f32⟩
  | 65 => ⟨S96x1, .f32⟩
  | 66 => ⟨S96x1, .i1⟩
  | 67 => ⟨S_, .i32⟩
  | 68 => ⟨S_, .i32⟩
  | 69 => ⟨S96x1, .i32⟩
  | 70 => ⟨S96x1, .i32⟩
  | 71 => ⟨S96x1, .f32⟩
  | 72 => ⟨S_, .f32⟩
  | 73 => ⟨S96x1, .f32⟩
  | 74 => ⟨S96x1, .f32⟩
  | 75 => ⟨S96x1, .f32⟩
  | 76 => ⟨S_, .f32⟩
  | 77 => ⟨S96x1, .f32⟩
  | 78 => ⟨S96x1, .f32⟩
  | 79 => ⟨S96x5120, .fp8e4m3⟩
  | 80 => ⟨S96x7680, .f32⟩
  | 81 => ⟨S96x7680, .f32⟩
  | 82 => ⟨S96x7680, .f32⟩
  | 83 => ⟨S1x7680, .f32⟩
  | 84 => ⟨S96x7680, .f32⟩
  | 85 => ⟨S96x7680, .f32⟩
  | 86 => ⟨S96x2560, .f32⟩
  | 87 => ⟨S96x1x20x128, .f32⟩
  | 88 => ⟨S96x2560, .f32⟩
  | 89 => ⟨S96x1x20x128, .f32⟩
  | 90 => ⟨S96x2560, .f32⟩
  | 91 => ⟨S96x1x20x128, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S96x1, .f32⟩
  | 107 => ⟨S96x1x1, .f32⟩
  | 108 => ⟨S1x1x64, .f32⟩
  | 109 => ⟨S96x1x64, .f32⟩
  | 110 => ⟨S96x1x64, .f32⟩
  | 111 => ⟨S96x1x64, .f32⟩
  | 112 => ⟨S96x1x64, .f32⟩
  | 113 => ⟨S96x1x1x64, .f32⟩
  | 114 => ⟨S96x1x64, .f32⟩
  | 115 => ⟨S96x1x1x64, .f32⟩
  | 116 => ⟨S96x1x20x64, .f32⟩
  | 117 => ⟨S96x1x20x64, .f32⟩
  | 118 => ⟨S96x1x20x64, .f32⟩
  | 119 => ⟨S96x1x20x64, .f32⟩
  | 120 => ⟨S96x1x20x64, .f32⟩
  | 121 => ⟨S96x1x20x64, .f32⟩
  | 122 => ⟨S96x1x20x64, .f32⟩
  | 123 => ⟨S96x1x20x64, .f32⟩
  | 124 => ⟨S96x1x20x64, .f32⟩
  | 125 => ⟨S96x1x20x64, .f32⟩
  | 126 => ⟨S96x1x20x64, .f32⟩
  | 127 => ⟨S96x1x20x64, .f32⟩
  | _ => ⟨S96x1x5120, .bf16⟩

abbrev hbmTy0_1 (i : Nat) : BufTy := match i % 128 with
  | 0 => ⟨S96x1x20x128, .f32⟩
  | 1 => ⟨S96x1x20x128, .bf16⟩
  | 2 => ⟨S96x1x20x64, .f32⟩
  | 3 => ⟨S96x1x20x64, .f32⟩
  | 4 => ⟨S96x1x20x64, .f32⟩
  | 5 => ⟨S96x1x20x64, .f32⟩
  | 6 => ⟨S96x1x20x64, .f32⟩
  | 7 => ⟨S96x1x20x64, .f32⟩
  | 8 => ⟨S96x1x20x64, .f32⟩
  | 9 => ⟨S96x1x20x64, .f32⟩
  | 10 => ⟨S96x1x20x64, .f32⟩
  | 11 => ⟨S96x1x20x64, .f32⟩
  | 12 => ⟨S96x1x20x64, .f32⟩
  | 13 => ⟨S96x1x20x64, .f32⟩
  | 14 => ⟨S96x1x20x128, .f32⟩
  | 15 => ⟨S96x1x20x128, .bf16⟩
  | 16 => ⟨S96x1x20x128, .bf16⟩
  | 17 => ⟨S96x1x5120, .fp8e4m3⟩
  | 18 => ⟨S96x1x1, .f32⟩
  | _ => ⟨S96x1x5120, .bf16⟩

abbrev hbmTy (i : Nat) : BufTy := match i / 128 with
  | 0 => hbmTy0_0 i
  | 1 => hbmTy0_1 i
  | _ => ⟨S96x1x5120, .bf16⟩

abbrev bufTy : (tb : Table) → Fin (tcTables nBuf tb) → BufTy
  | .hbm, ⟨i, _⟩ => hbmTy i
  | .local _ .vmem, ⟨0, _⟩ => ⟨S96x5120, .f32⟩
  | .local _ .vmem, ⟨1, _⟩ => ⟨S96x1, .f32⟩
  | .local _ .vmem, ⟨2, _⟩ => ⟨S5120x7680, .fp8e4m3⟩
  | .local _ .vmem, ⟨3, _⟩ => ⟨S96x5120, .fp8e4m3⟩
  | .local _ .vmem, ⟨4, _⟩ => ⟨S96x7680, .f32⟩
  | _, _ => ⟨S96x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_c_6 : Ref sig .tc := ⟨.hbm, 42, rfl⟩
abbrev main_call0_v0 : Ref sig .tc := ⟨.hbm, 43, rfl⟩
abbrev main_call0_v1 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_call1_v0 : Ref sig .tc := ⟨.hbm, 61, rfl⟩
abbrev main_call1_v1 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_c_13 : Ref sig .tc := ⟨.hbm, 67, rfl⟩
abbrev main_call2_v0 : Ref sig .tc := ⟨.hbm, 68, rfl⟩
abbrev main_call2_v1 : Ref sig .tc := ⟨.hbm, 69, rfl⟩
abbrev main_v43 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_15 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_cst_19 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
/-
  The buffers and cells of the kernel's one region, by name, and how they are held.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameSuffixV
public import Idealize.ShloMosaic.Lib.MixedBatch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The operands left in HBM: activations, norm weight, positions, weights, weight scales; -/
abbrev xM : Memref sig .tc .hbm S96x5120 .bf16 := Memref.whole main_v0
abbrev nM : Memref sig .tc .hbm S1x5120 .f32 := Memref.whole main_v1
abbrev pM : Memref sig .tc .hbm S1x96 .i32 := Memref.whole main_v2
abbrev wM : Memref sig .tc .hbm S5120x7680 .fp8e4m3 := Memref.whole main_arg3
abbrev sM : Memref sig .tc .hbm S7680 .f32 := Memref.whole main_arg4
/-- the results: queries, keys, values, codes, activation scales; -/
abbrev qM : Memref sig .tc .hbm S20x96x128 .bf16 := Memref.whole main_v3_0
abbrev kM : Memref sig .tc .hbm S20x96x128 .bf16 := Memref.whole main_v3_1
abbrev vM : Memref sig .tc .hbm S20x96x128 .bf16 := Memref.whole main_v3_2
abbrev cM : Memref sig .tc .hbm S96x5120 .fp8e4m3 := Memref.whole main_v3_3
abbrev aM : Memref sig .tc .hbm S1x96 .f32 := Memref.whole main_v3_4
/-- and the scratch buffers in VMEM, in the kernel's order. -/
abbrev xV : Memref sig .tc .vmem S96x5120 .bf16 := Memref.whole cc0_scratch0
abbrev nV : Memref sig .tc .vmem S1x5120 .f32 := Memref.whole cc0_scratch1
abbrev pV : Memref sig .tc .vmem S1x96 .i32 := Memref.whole cc0_scratch2
abbrev sV : Memref sig .tc .vmem S7680 .f32 := Memref.whole cc0_scratch3
abbrev wV : Memref sig .tc .vmem S15x5120x512 .fp8e4m3 := Memref.whole cc0_scratch4
abbrev cV : Memref sig .tc .vmem S96x5120 .fp8e4m3 := Memref.whole cc0_scratch5
abbrev aV : Memref sig .tc .vmem S96x128 .f32 := Memref.whole cc0_scratch6
abbrev rV : Memref sig .tc .vmem S1x96 .f32 := Memref.whole cc0_scratch7
abbrev cosV : Memref sig .tc .vmem S96x128 .f32 := Memref.whole cc0_scratch8
abbrev sinV : Memref sig .tc .vmem S96x128 .f32 := Memref.whole cc0_scratch9
abbrev oV : Memref sig .tc .vmem S60x96x128 .bf16 := Memref.whole cc0_scratch10

/-- The contents of a memref's buffer on core `c`, and the buffer held at contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev semPt (c : Dev nD) (i : DmaSem sig) : sProp 𝕄 := semVal ((c : Thread nD τ), SemLoc.dma i) 0

/-- The kernel's body on its operands. -/
abbrev body : Prog (TpuEff nD τ sig (Elt F) Λ₀ .tc) PUnit := bodyAt0 ⟨0, by decide⟩

end Cert.Kernel.Hand

end
-- ==== Proof.Quant.lean ====
/-
  The quantiser of one block of 32 rows, written once: the kernel's three copies of it are this function.
-/
module

public import proofs.«01_k».proof.Proof.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number whose exponent field is `b`. -/
def qPow (b : IVec S32x128 32) : FVec F S32x128 .f32 := bitcastToFloat .f32 (shli b (broadcast S32x128 23#32))
/-- One step of the search for the exponent field: add `t` if the number with that field is at most `y`. -/
def qStep (y : FVec F S32x128 .f32) (b : IVec S32x128 32) (t : BitVec 32) : IVec S32x128 32 :=
  select (cmpf .oge y (qPow (addi b (broadcast S32x128 t)))) (addi b (broadcast S32x128 t)) b
/-- The exponent field found. -/
def qField (y : FVec F S32x128 .f32) : IVec S32x128 32 :=
  qStep y (qStep y (qStep y (qStep y (qStep y (qStep y (qStep y (qStep y (broadcast S32x128 0#32) 128#32) 64#32) 32#32) 16#32) 8#32) 4#32) 2#32) 1#32
/-- The exponent, zero for a zero or non-finite number. -/
def qExpo (y : FVec F S32x128 .f32) : IVec S32x128 32 :=
  select (ori (cmpi .eq (qField y) (broadcast S32x128 0#32)) (cmpi .eq (qField y) (broadcast S32x128 255#32)))
    (broadcast S32x128 0#32) (subi (qField y) (broadcast S32x128 126#32))
/-- Two to the power `e`, as a product of two powers with in-range fields. -/
def qTwo (e : IVec S32x128 32) : FVec F S32x128 .f32 :=
  mulf (qPow (addi (shrsi e (broadcast S32x128 1#32)) (broadcast S32x128 127#32)))
    (qPow (addi (subi e (shrsi e (broadcast S32x128 1#32))) (broadcast S32x128 127#32)))

section
variable (n : Vec F S1x5120 .f32) (xb : Vec F S32x5120 .bf16)
/-- The exponent of each row's scale. -/
def qE : IVec S32x128 32 :=
  select (cmpf .oeq (k0_pay2 n xb) (broadcast S32x128 (Scalar.ofBits .f32 0x00000000#32))) (broadcast S32x128 0#32)
    (qExpo (k0_pay3 n xb))
/-- Each row's scale, on every lane. -/
def qScale : FVec F S32x128 .f32 := shapeCast S32x128 (qTwo (qE n xb)) shapeCasts_S32x128_S32x128
/-- The block's codes. -/
def qCodes : FVec F S32x5120 .fp8e4m3 :=
  shapeCast S32x5120 (truncf .fp8e4m3
    (minimumf (broadcast S32x5120 (Scalar.ofBits .f32 0x43E00000#32))
      (maximumf (broadcast S32x5120 (Scalar.ofBits .f32 0xC3E00000#32))
        (mulf (k0_pay1 n xb)
          (broadcastTo S32x5120 (extractStridedSlice S32x1 ![0, 0] (qTwo (subi (broadcast S32x128 0#32) (qE n xb))) slices_S32x128_o0_0_S32x1)
            broadcasts_S32x1_S32x5120)))) bitsLt_fp8e4m3_f32) shapeCasts_S32x5120_S32x5120
end

/-- Rows `32 b …` of the activations. -/
abbrev xR (b : Fin 3) : Rect S96x5120 := Rect.unit (s := S96x5120) ![32 * b.val, 0] S32x5120.size (by
  intro a; have := b.isLt; fin_cases a <;> simp [Matrix.cons_val_zero, Matrix.cons_val_one] <;> omega)
/-- Rows `32 b …` of the scales. -/
abbrev aR (b : Fin 3) : Rect S96x128 := Rect.unit (s := S96x128) ![32 * b.val, 0] S32x128.size (by
  intro a; have := b.isLt; fin_cases a <;> simp [Matrix.cons_val_zero, Matrix.cons_val_one] <;> omega)

section
variable (c : Dev nD) (x : HbBuf (F := F) c xM) (n : HbBuf (F := F) c nM) (fx : HbBuf (F := F) c xV) (fn : HbBuf (F := F) c nV)
/-- The norm weight and a block of rows, as the body reads them from the scratch it copied them to. -/
def nL : Vec F S1x5120 .f32 :=
  View.readAt (Elt F) nV.view (Rect.unit ![0, 0] S1x5120.size inb_S1x5120_S1x5120_0_0).toLoadRect
    (View.write (Elt F) (Memref.whole cc0_scratch1).view fn (ReadAs.same.apply (View.read (Elt F) nM.view n)) Finset.univ)
def xL (b : Fin 3) : Vec F S32x5120 .bf16 :=
  View.readAt (Elt F) xV.view (xR b).toLoadRect
    (View.write (Elt F) (Memref.whole cc0_scratch0).view fx (ReadAs.same.apply (View.read (Elt F) xM.view x)) Finset.univ)
/-- The scratch of codes, the scratch of scales after the three blocks. -/
def codesB (fc : HbBuf (F := F) c cV) : HbBuf (F := F) c cV :=
  cV.view.writes (Elt F) fc [⟨xR 2, qCodes (nL c n fn) (xL c x fx 2)⟩, ⟨xR 1, qCodes (nL c n fn) (xL c x fx 1)⟩, ⟨xR 0, qCodes (nL c n fn) (xL c x fx 0)⟩]
def scaleB (fa : HbBuf (F := F) c aV) : HbBuf (F := F) c aV :=
  aV.view.writes (Elt F) fa [⟨aR 2, qScale (nL c n fn) (xL c x fx 2)⟩, ⟨aR 1, qScale (nL c n fn) (xL c x fx 1)⟩, ⟨aR 0, qScale (nL c n fn) (xL c x fx 0)⟩]
end

end Cert.Kernel.Hand

end
-- ==== Proof.Vals.lean ====
/-
  The values the kernel moves, written once for all column blocks.
-/
module

public import proofs.«01_k».proof.Proof.Quant

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Slot `i` of the weight scratch, and the scratch held on that slot alone. -/
abbrev wR (i : Fin 15) : Rect S15x5120x512 := Rect.unit (s := S15x5120x512) ![i.val, 0, 0] S1x5120x512.size (by
  intro a; have := i.isLt; fin_cases a <;> simp [Matrix.cons_val_zero, Matrix.cons_val_one, Matrix.cons_val_two] <;> omega)
abbrev wPt (c : Dev nD) (i : Fin 15) (f : HbBuf (F := F) c wV) : sProp 𝕄 :=
  wV.view.loc (c : Thread nD τ) ↦[wV.view.setOn (wR i).set]{fullShare} f
/-- Column block `i` of the weights. -/
abbrev wC (i : Fin 15) : Rect S5120x7680 := Rect.unit (s := S5120x7680) ![0, 512 * i.val] S5120x512.size (by
  intro a; have := i.isLt; fin_cases a <;> simp [Matrix.cons_val_zero, Matrix.cons_val_one] <;> omega)
/-- Four planes of the output scratch; -/
abbrev oR (i : Fin 15) : Rect S60x96x128 := Rect.unit (s := S60x96x128) ![4 * i.val, 0, 0] S4x96x128.size (by
  intro a; have := i.isLt; fin_cases a <;> simp [Matrix.cons_val_zero, Matrix.cons_val_one, Matrix.cons_val_two] <;> omega)
/-- one plane of it. -/
abbrev oP (i : Fin 15) (j : Fin 4) : Rect S60x96x128 := Rect.unit (s := S60x96x128) ![4 * i.val + j.val, 0, 0] S1x96x128.size (by
  intro a; have := i.isLt; have := j.isLt; fin_cases a <;> simp [Matrix.cons_val_zero, Matrix.cons_val_one, Matrix.cons_val_two] <;> omega)
abbrev oPt (c : Dev nD) (i : Fin 15) (f : HbBuf (F := F) c oV) : sProp 𝕄 :=
  oV.view.loc (c : Thread nD τ) ↦[oV.view.setOn (oR i).set]{fullShare} f
/-- Four planes of a result. -/
abbrev rR (i : Fin 5) : Rect S20x96x128 := Rect.unit (s := S20x96x128) ![4 * i.val, 0, 0] S4x96x128.size (by
  intro a; have := i.isLt; fin_cases a <;> simp [Matrix.cons_val_zero, Matrix.cons_val_one, Matrix.cons_val_two] <;> omega)
abbrev rPt (c : Dev nD) (M : Memref sig .tc .hbm S20x96x128 .bf16) (i : Fin 5) (f : HbBuf (F := F) c M) : sProp 𝕄 :=
  M.view.loc (c : Thread nD τ) ↦[M.view.setOn (rR i).set]{fullShare} f
/-- The scales of one head's 128 columns. -/
abbrev sR (i : Fin 15) (j : Fin 4) : Rect S7680 := Rect.unit (s := S7680) ![512 * i.val + 128 * j.val] S128.size (by
  intro a; have := i.isLt; have := j.isLt; fin_cases a; simp [Matrix.cons_val_zero]; omega)

/-- Two contents are one. -/
structure Same {α : Sort _} (a b : α) : Prop where
  eq : a = b

/-- A buffer's contents may be named; the name equals what it names. -/
theorem gen (c : Dev nD) {sp : Space} {S : Shape} {e : EltTy} (M : Memref sig .tc sp S e) (f : HbBuf (F := F) c M) :
    (hbPt c M f : sProp 𝕄) ⊢ iprop(∃ g, ⌜Same g f⌝ ∗ hbPt c M g) := by
  iintro H; iexists f; isplitr; swap; · iexact H
  ipureintro; exact ⟨rfl⟩

/-- A whole buffer, split into two half shares. -/
theorem halves (c : Dev nD) {sp : Space} {S : Shape} {e : EltTy} (M : Memref sig .tc sp S e) (f : HbBuf (F := F) c M) :
    (hbPt c M f : sProp 𝕄) ⊢ iprop((M.view.loc (c : Thread nD τ) ↦{fullShare.left} f) ∗ (M.view.loc (c : Thread nD τ) ↦{fullShare.right} f)) :=
  (pointsTo_share (PosShare.mem_left_op_right fullShare)).1

/-! ## The values of a column block -/

/-- Column block `i` of the weights, as the scratch's slot `i` gives it back. -/
def wSlot (c : Dev nD) (w : HbBuf (F := F) c wM) (fw : HbBuf (F := F) c wV) (i : Fin 15) : Vec F S1x5120x512 .fp8e4m3 :=
  View.readAt (Elt F) wV.view (wR i).toLoadRect
    (View.write (Elt F) ((wV.slice (wR i) (fun _ => rfl)).squeeze S5120x512 squeezes_S1x5120x512_S5120x512).view fw
      (ReadAs.same.apply (View.read (Elt F) (wM.slice (wC i) (fun _ => rfl)).view w)) Finset.univ)

/-- A head's lanes lie within a chunk. -/
theorem sl4 (j : Fin 4) : S96x512.Slices ![0, 128 * j.val] S96x128 := by
  fin_cases j
  exacts [slices_S96x512_o0_0_S96x128, slices_S96x512_o0_128_S96x128, slices_S96x512_o0_256_S96x128, slices_S96x512_o0_384_S96x128]

/-- Head `j` of a column block's accumulator, scaled by the rows' and the columns' scales. -/
def headT (acc : FVec F S96x512 .f32) (j : Fin 4) (am : Vec F S96x128 .f32) (sc : Vec F S128 .f32) : FVec F S96x128 .f32 :=
  mulf (mulf (extractStridedSlice S96x128 ![0, 128 * j.val] acc (sl4 j)) am)
    (broadcastTo S96x128 (shapeCast S1x128 sc shapeCasts_S128_S1x128) broadcasts_S1x128_S96x128)
/-- The rotary embedding of a head. -/
def headR (t : FVec F S96x128 .f32) (co si : Vec F S96x128 .f32) : FVec F S1x96x128 .bf16 :=
  shapeCast S1x96x128 (truncf .bf16 (addf (mulf t co) (mulf (dynamicRotate 1 64#32 none t rotates_S96x128_d1) si)) bitsLt_bf16_f32)
    shapeCasts_S96x128_S1x96x128
/-- A head as it is. -/
def headP (t : FVec F S96x128 .f32) : FVec F S1x96x128 .bf16 :=
  shapeCast S1x96x128 (truncf .bf16 t bitsLt_bf16_f32) shapeCasts_S96x128_S1x96x128

section
variable (c : Dev nD) (w : HbBuf (F := F) c wM) (fw : HbBuf (F := F) c wV) (cb : HbBuf (F := F) c cV) (ab : HbBuf (F := F) c aV)
  (sb : HbBuf (F := F) c sV) (pb : HbBuf (F := F) c pV)

/-- The positions as the body reads them; the cosines, the signed sines. -/
def posL : Vec F S1x96 .i32 := View.readAt (Elt F) pV.view (Rect.unit ![0, 0] S1x96.size inb_S1x96_S1x96_0_0).toLoadRect pb
/-- The table of cosines that the body stores. -/
def cosT : Vec F S96x128 .f32 :=
  cosV.view.readCov [⟨Rect.unit ![0, 0] S96x128.size inb_S96x128_S96x128_0_0, k0_pay50 (posL c pb)⟩]
    (Rect.unit ![0, 0] S96x128.size inb_S96x128_S96x128_0_0).toLoadRect
/-- The table of signed sines that the body stores. -/
def sinT : Vec F S96x128 .f32 :=
  sinV.view.readCov [⟨Rect.unit ![0, 0] S96x128.size inb_S96x128_S96x128_0_0,
      k0_pay53 (k0_pay51 (posL c pb)) k0_pay52 (Scalar.ofBits .f32 0x00000000#32)⟩]
    (Rect.unit ![0, 0] S96x128.size inb_S96x128_S96x128_0_0).toLoadRect
/-- A column block's accumulator. -/
def accV (i : Fin 15) : FVec F S96x512 .f32 :=
  k0_pay54 (View.readAt (Elt F) cV.view (Rect.unit ![0, 0] S96x5120.size inb_S96x5120_S96x5120_0_0).toLoadRect cb) (wSlot c w fw i)
/-- Head `j` of column block `i`, scaled. -/
def headV (i : Fin 15) (j : Fin 4) : FVec F S96x128 .f32 :=
  headT (accV c w fw cb i) j (View.readAt (Elt F) aV.view (Rect.unit ![0, 0] S96x128.size inb_S96x128_S96x128_0_0).toLoadRect ab)
    (View.readAt (Elt F) sV.view (sR i j).toLoadRect sb)
/-- What the body stores for it: turned by its position for queries and keys, as it is for values. -/
def storedR (i : Fin 15) (j : Fin 4) : FVec F S1x96x128 .bf16 := headR (headV c w fw cb ab sb i j) (cosT c pb) (sinT c pb)
/-- A chunk's head, stored as it is. -/
def storedP (i : Fin 15) (j : Fin 4) : FVec F S1x96x128 .bf16 := headP (headV c w fw cb ab sb i j)
end

/-- The output scratch with the four planes of block `i` stored. -/
def oBuf (c : Dev nD) (fo : HbBuf (F := F) c oV) (i : Fin 15) (v : Fin 4 → FVec F S1x96x128 .bf16) : HbBuf (F := F) c oV :=
  oV.view.writes (Elt F) fo [⟨oP i 3, v 3⟩, ⟨oP i 2, v 2⟩, ⟨oP i 1, v 1⟩, ⟨oP i 0, v 0⟩]
/-- A result with four planes copied out of the scratch. -/
def rBuf (c : Dev nD) (M : Memref sig .tc .hbm S20x96x128 .bf16) (j : Fin 5) (f : HbBuf (F := F) c M) (i : Fin 15) (g : HbBuf (F := F) c oV) :
    HbBuf (F := F) c M :=
  M.view.writes (Elt F) f [⟨rR j, ReadAs.same.apply (View.read (Elt F) (oV.slice (oR i) (fun _ => rfl)).view g)⟩]

/-- A copy of four planes out: the result's planes at the scratch's, the scratch's planes back. -/
abbrev dlvO (c : Dev nD) (M : Memref sig .tc .hbm S20x96x128 .bf16) (j : Fin 5) (f : HbBuf (F := F) c M) (i : Fin 15) (g : HbBuf (F := F) c oV) : sProp 𝕄 :=
  iprop((M.view.loc (c : Thread nD τ) ↦[M.view.setOn (rR j).set]{fullShare} rBuf c M j f i g)
    ∗ (oV.view.loc (c : Thread nD τ) ↦[(oV.slice (oR i) (fun _ => rfl)).view.set]{fullShare} g))
/-- The copy of the codes out. -/
abbrev dlvC (c : Dev nD) (fcM : HbBuf (F := F) c cM) (cb : HbBuf (F := F) c cV) : sProp 𝕄 :=
  iprop((cM.view.loc (c : Thread nD τ) ↦{fullShare} View.write (Elt F) cM.view fcM (ReadAs.same.apply (cV.view.read (Elt F) cb)) Finset.univ)
    ∗ (cV.view.loc (c : Thread nD τ) ↦[cV.view.set]{fullShare.right} cb))
/-- What the output semaphore's sixteen copies count. -/
abbrev amt : Fin 16 → ℕ := ![15360, 3072, 3072, 3072, 3072, 3072, 3072, 3072, 3072, 3072, 3072, 3072, 3072, 3072, 3072, 3072]

section
variable (c : Dev nD) (w : HbBuf (F := F) c wM) (fw : HbBuf (F := F) c wV) (cb : HbBuf (F := F) c cV) (ab : HbBuf (F := F) c aV)
  (sb : HbBuf (F := F) c sV) (pb : HbBuf (F := F) c pV) (fcM : HbBuf (F := F) c cM) (fo : HbBuf (F := F) c oV)
  (fq : HbBuf (F := F) c qM) (fk : HbBuf (F := F) c kM) (fv : HbBuf (F := F) c vM)
/-- What each of the sixteen copies on the output semaphore delivers. -/
abbrev deliv : Fin 16 → sProp 𝕄
  | ⟨0, _⟩ => dlvC c fcM cb
  | ⟨1, _⟩ => dlvO c qM 0 fq 0 (oBuf c fo 0 (storedR c w fw cb ab sb pb 0))
  | ⟨2, _⟩ => dlvO c qM 1 fq 1 (oBuf c fo 1 (storedR c w fw cb ab sb pb 1))
  | ⟨3, _⟩ => dlvO c qM 2 fq 2 (oBuf c fo 2 (storedR c w fw cb ab sb pb 2))
  | ⟨4, _⟩ => dlvO c qM 3 fq 3 (oBuf c fo 3 (storedR c w fw cb ab sb pb 3))
  | ⟨5, _⟩ => dlvO c qM 4 fq 4 (oBuf c fo 4 (storedR c w fw cb ab sb pb 4))
  | ⟨6, _⟩ => dlvO c kM 0 fk 5 (oBuf c fo 5 (storedR c w fw cb ab sb pb 5))
  | ⟨7, _⟩ => dlvO c kM 1 fk 6 (oBuf c fo 6 (storedR c w fw cb ab sb pb 6))
  | ⟨8, _⟩ => dlvO c kM 2 fk 7 (oBuf c fo 7 (storedR c w fw cb ab sb pb 7))
  | ⟨9, _⟩ => dlvO c kM 3 fk 8 (oBuf c fo 8 (storedR c w fw cb ab sb pb 8))
  | ⟨10, _⟩ => dlvO c kM 4 fk 9 (oBuf c fo 9 (storedR c w fw cb ab sb pb 9))
  | ⟨11, _⟩ => dlvO c vM 0 fv 10 (oBuf c fo 10 (storedP c w fw cb ab sb 10))
  | ⟨12, _⟩ => dlvO c vM 1 fv 11 (oBuf c fo 11 (storedP c w fw cb ab sb 11))
  | ⟨13, _⟩ => dlvO c vM 2 fv 12 (oBuf c fo 12 (storedP c w fw cb ab sb 12))
  | ⟨14, _⟩ => dlvO c vM 3 fv 13 (oBuf c fo 13 (storedP c w fw cb ab sb 13))
  | ⟨15, _⟩ => dlvO c vM 4 fv 14 (oBuf c fo 14 (storedP c w fw cb ab sb 14))
  | ⟨_ + 16, h⟩ => absurd h (by omega)

instance deliv_storable (t : Fin 16) : Storable (upEmb : UEmb _ 𝕄) (deliv c w fw cb ab sb pb fcM fo fq fk fv t) := by
  fin_cases t <;> simp only [deliv] <;> infer_instance
end

end Cert.Kernel.Hand

end
-- ==== Proof.Pure.lean ====
/-
  The kernel's results as functions of its operands alone, and the buffers the body leaves read as these functions.
-/
module

public import proofs.«01_k».proof.Proof.Vals
public import Idealize.ShloMosaic.Lib.ValueIdxCore
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Rows `32 b …` of the activations as a block. -/
def xBlk (x : Vec F S96x5120 .bf16) (b : Fin 3) : Vec F S32x5120 .bf16 := fun j => x ((xR b).emb j)
/-- The codes, the scales of all rows. -/
def codesV (x : Vec F S96x5120 .bf16) (n : Vec F S1x5120 .f32) : Vec F S96x5120 .fp8e4m3 := fun i =>
  qCodes n (xBlk x ⟨(i 0).val / 32, by have := (i 0).isLt; simp only [Matrix.cons_val_zero] at this; omega⟩)
    (ix2 ⟨(i 0).val % 32, Nat.mod_lt _ (by decide)⟩ (i 1))
def scaleV (x : Vec F S96x5120 .bf16) (n : Vec F S1x5120 .f32) : Vec F S96x128 .f32 := fun i =>
  qScale n (xBlk x ⟨(i 0).val / 32, by have := (i 0).isLt; simp only [Matrix.cons_val_zero] at this; omega⟩)
    (ix2 ⟨(i 0).val % 32, Nat.mod_lt _ (by decide)⟩ (i 1))
/-- Column block `i` of the weights. -/
def wBlk (w : Vec F S5120x7680 .fp8e4m3) (i : Fin 15) : Vec F S5120x512 .fp8e4m3 := fun j => w ((wC i).emb j)

section
variable (x : Vec F S96x5120 .bf16) (n : Vec F S1x5120 .f32) (p : Vec F S1x96 .i32) (w : Vec F S5120x7680 .fp8e4m3) (s : Vec F S7680 .f32)
/-- Head `j` of column block `i`, scaled; turned by its position; as it is. -/
def headS (i : Fin 15) (j : Fin 4) : FVec F S96x128 .f32 :=
  headT (k0_pay54 (codesV x n) (fun k => wBlk w i (Shape.reshapeEquiv shapeCasts_S1x5120x512_S5120x512.symm k))) j (scaleV x n) (fun l => s ((sR i j).emb l))
def planeR (i : Fin 15) (j : Fin 4) : FVec F S1x96x128 .bf16 :=
  headR (headS x n w s i j) (k0_pay50 p) (k0_pay53 (k0_pay51 p) k0_pay52 (Scalar.ofBits .f32 0x00000000#32))
def planeP (i : Fin 15) (j : Fin 4) : FVec F S1x96x128 .bf16 := headP (headS x n w s i j)
/-- Twenty heads from column block `b` on. -/
def resG (pl : Fin 15 → Fin 4 → FVec F S1x96x128 .bf16) (b : ℕ) (hb : b ≤ 10) : Vec F S20x96x128 .bf16 := fun y =>
  pl ⟨b + (y 0).val / 4, by have := (y 0).isLt; simp only [Matrix.cons_val_zero] at this; omega⟩ ⟨(y 0).val % 4, Nat.mod_lt _ (by decide)⟩
    (ix3 0 (y 1) (y 2))
/-- The five results. -/
def qG : Vec F S20x96x128 .bf16 := resG (planeR x n p w s) 0 (by decide)
def kG : Vec F S20x96x128 .bf16 := resG (planeR x n p w s) 5 (by decide)
def vG : Vec F S20x96x128 .bf16 := resG (planeP x n w s) 10 (by decide)
def aG : Vec F S1x96 .f32 := k0_pay48 (k0_pay47 (fun j => scaleV x n ((Rect.unit (s := S96x128) ![0, 0] S96x1.size inb_S96x128_S96x1_0_0).emb j)))
end

/-! ## The buffers read -/

/-- A whole buffer after writes that agree with `G`, read where one of them falls. -/
theorem writes_at {κ : Kind} (b : Ref sig κ) (G : b.ty.shape.Idx → Elt F b.ty.elt) (f : b.ty.Contents (Elt F))
    (L : List (View.Piece (Elt F) b.ty.shape b.ty.elt)) (hL : ∀ q ∈ L, ∀ x : q.1.shape.Idx, q.2 x = G (q.1.emb x))
    (y : b.ty.shape.Idx) (hy : ∃ q ∈ L, y ∈ q.1.set) : (Memref.whole b).view.writes (Elt F) f L y = G y := by
  have h := View.read_writes_apply_eq_canon (Memref.whole b).view f y L hy
  rw [View.canon_apply_of_pieces G L hL y hy] at h
  exact h

section
variable (c : Dev nD) (x : HbBuf (F := F) c xM) (n : HbBuf (F := F) c nM) (p : HbBuf (F := F) c pM) (w : HbBuf (F := F) c wM) (s : HbBuf (F := F) c sM)

/-- A zero offset. -/
theorem zero2 {d : Fin 2 → ℕ} : (![0, 0] : Fin 2 → ℕ) = fun _ => 0 := by funext a; fin_cases a <;> rfl

/-- The norm weight that the body reads is the operand. -/
theorem nL_eq (fn : HbBuf (F := F) c nV) : nL c n fn = n := by
  unfold nL
  rw [show View.write (Elt F) (Memref.whole cc0_scratch1).view fn (ReadAs.same.apply (View.read (Elt F) nM.view n)) Finset.univ = n
    from View.write_whole_univ ..]
  exact Memref.readAt_unit_zero (Elt F) cc0_scratch1 (zero2 (d := ![0,0])) _ n

/-- The rows that the body reads are those of the operand. -/
theorem xL_eq (fx : HbBuf (F := F) c xV) (b : Fin 3) : xL c x fx b = xBlk x b := by
  unfold xL
  rw [show View.write (Elt F) (Memref.whole cc0_scratch0).view fx (ReadAs.same.apply (View.read (Elt F) xM.view x)) Finset.univ = x
    from View.write_whole_univ ..]
  rfl

/-- A block's codes are rows of the table of codes. -/
theorem codes_piece (b : Fin 3) (j : S32x5120.Idx) : qCodes n (xBlk x b) j = codesV x n ((xR b).emb j) := by
  have h0 := idx2_lt0 j
  have e0 : ((xR b).emb j 0).val = 32 * b.val + 1 * (j 0).val := rfl
  have e1 : ((xR b).emb j 1).val = 0 + 1 * (j 1).val := rfl
  unfold codesV
  congr 1
  · congr 1; apply Fin.ext; simp only [e0]; omega
  · refine (eq_ix2 j).trans ?_
    congr 1 <;> apply Fin.ext
    · simp only [e0]; omega
    · simp only [e1]; omega

/-- A block's scales are rows of the table of scales. -/
theorem scale_piece (b : Fin 3) (j : S32x128.Idx) : qScale n (xBlk x b) j = scaleV x n ((aR b).emb j) := by
  have h0 := idx2_lt0 j
  have e0 : ((aR b).emb j 0).val = 32 * b.val + 1 * (j 0).val := rfl
  have e1 : ((aR b).emb j 1).val = 0 + 1 * (j 1).val := rfl
  unfold scaleV
  congr 1
  · congr 1; apply Fin.ext; simp only [e0]; omega
  · refine (eq_ix2 j).trans ?_
    congr 1 <;> apply Fin.ext
    · simp only [e0]; omega
    · simp only [e1]; omega

/-- The three blocks fill the buffer of codes. -/
theorem codesB_eq (fx : HbBuf (F := F) c xV) (fn : HbBuf (F := F) c nV) (fc : HbBuf (F := F) c cV) : codesB c x n fx fn fc = codesV x n := by
  funext y
  unfold codesB
  rw [nL_eq, xL_eq, xL_eq, xL_eq]
  refine writes_at cc0_scratch5 (codesV x n) fc _ ?_ y (View.cover_of_tiledL (s := S96x5120) _ S32x5120.size (by sl_kernel_rfl) y)
  intro q hq
  simp only [List.mem_cons, List.not_mem_nil, or_false] at hq
  rcases hq with rfl | rfl | rfl
  · exact codes_piece c x n 2
  · exact codes_piece c x n 1
  · exact codes_piece c x n 0

/-- The three blocks fill the buffer of scales. -/
theorem scaleB_eq (fx : HbBuf (F := F) c xV) (fn : HbBuf (F := F) c nV) (fa : HbBuf (F := F) c aV) : scaleB c x n fx fn fa = scaleV x n := by
  funext y
  unfold scaleB
  rw [nL_eq, xL_eq, xL_eq, xL_eq]
  refine writes_at cc0_scratch6 (scaleV x n) fa _ ?_ y (View.cover_of_tiledL (s := S96x128) _ S32x128.size (by sl_kernel_rfl) y)
  intro q hq
  simp only [List.mem_cons, List.not_mem_nil, or_false] at hq
  rcases hq with rfl | rfl | rfl
  · exact scale_piece c x n 2
  · exact scale_piece c x n 1
  · exact scale_piece c x n 0

/-- A weight chunk that the body reads is a chunk of the operand. -/
theorem wSlot_eq (fw : HbBuf (F := F) c wV) (i : Fin 15) :
    wSlot c w fw i = fun k => wBlk w i (Shape.reshapeEquiv shapeCasts_S1x5120x512_S5120x512.symm k) := by
  unfold wSlot
  refine (congrArg (View.readAt (Elt F) wV.view (wR i).toLoadRect) (View.write_reshape_univ
    (v := (wV.slice (wR i) (fun _ => rfl)).view) squeezes_S1x5120x512_S5120x512.numel_eq fw _)).trans ?_
  rw [View.readAt_rect]
  refine (View.read_write_univ ..).trans ?_
  funext k
  exact congrArg (wBlk w i) (DFunLike.congr_fun (Shape.reshapeEquiv_symm _) k)

/-- A chunk's product. -/
theorem accV_eq (fw : HbBuf (F := F) c wV) (i : Fin 15) (cb : HbBuf (F := F) c cV) :
    accV c w fw cb i = k0_pay54 cb (fun k => wBlk w i (Shape.reshapeEquiv shapeCasts_S1x5120x512_S5120x512.symm k)) := by
  unfold accV
  rw [wSlot_eq]
  rw [show View.readAt (Elt F) cV.view (Rect.unit ![0, 0] S96x5120.size inb_S96x5120_S96x5120_0_0).toLoadRect cb = cb
    from Memref.readAt_unit_zero (Elt F) cc0_scratch5 (zero2 (d := ![0,0])) _ cb]

/-- A chunk's head, scaled. -/
theorem headV_eq (fw : HbBuf (F := F) c wV) (i : Fin 15) (j : Fin 4) :
    headV c w fw (codesV x n) (scaleV x n) s i j = headS x n w s i j := by
  unfold headV headS
  rw [accV_eq]
  rw [show View.readAt (Elt F) aV.view (Rect.unit ![0, 0] S96x128.size inb_S96x128_S96x128_0_0).toLoadRect (scaleV x n) = scaleV x n
    from Memref.readAt_unit_zero (Elt F) cc0_scratch6 (zero2 (d := ![0,0])) _ _]
  rfl

/-- The table of cosines. -/
theorem cosT_eq : cosT c p = k0_pay50 p := by
  unfold cosT posL
  rw [View.readCov_unit_zero _ (zero2 (d := ![0,0]))]
  congr 1
  exact Memref.readAt_unit_zero (Elt F) cc0_scratch2 (zero2 (d := ![0,0])) _ p

/-- The table of signed sines. -/
theorem sinT_eq : sinT c p = k0_pay53 (k0_pay51 p) k0_pay52 (Scalar.ofBits .f32 0x00000000#32) := by
  unfold sinT posL
  rw [View.readCov_unit_zero _ (zero2 (d := ![0,0]))]
  congr 2
  exact Memref.readAt_unit_zero (Elt F) cc0_scratch2 (zero2 (d := ![0,0])) _ p

/-- A chunk's rotated heads. -/
theorem storedR_eq (fw : HbBuf (F := F) c wV) (i : Fin 15) :
    storedR c w fw (codesV x n) (scaleV x n) s p i = planeR x n p w s i := by
  funext j; unfold storedR planeR; rw [headV_eq, cosT_eq, sinT_eq]
/-- A chunk's heads stored as they are. -/
theorem storedP_eq (fw : HbBuf (F := F) c wV) (i : Fin 15) :
    storedP c w fw (codesV x n) (scaleV x n) s i = planeP x n w s i := by
  funext j; unfold storedP planeP; rw [headV_eq]

/-- The planes stored for block `i`, read back. -/
theorem oBuf_at (fo : HbBuf (F := F) c oV) (i : Fin 15) (v : Fin 4 → FVec F S1x96x128 .bf16) (y : S60x96x128.Idx) (hy : (y 0).val / 4 = i.val) :
    oBuf c fo i v y = v ⟨(y 0).val % 4, Nat.mod_lt _ (by decide)⟩ (ix3 0 (y 1) (y 2)) := by
  unfold oBuf
  have key : ∀ (j : Fin 4) (z : S1x96x128.Idx), v j z = (fun y : S60x96x128.Idx => v ⟨(y 0).val % 4, Nat.mod_lt _ (by decide)⟩ (ix3 0 (y 1) (y 2))) ((oP i j).emb z) := by
    intro j z
    have h0 : (z 0).val < 1 := (z 0).isLt
    have e0 : ((oP i j).emb z 0).val = 4 * i.val + j.val + 1 * (z 0).val := rfl
    have e1 : ((oP i j).emb z 1).val = 0 + 1 * (z 1).val := rfl
    have e2 : ((oP i j).emb z 2).val = 0 + 1 * (z 2).val := rfl
    have hj := j.isLt
    dsimp only
    congr 1
    · congr 1; apply Fin.ext; simp only [e0]; omega
    · refine (eq_ix3 z).trans ?_
      congr 1 <;> apply Fin.ext
      · simp; omega
      · simp only [e1]; omega
      · simp only [e2]; omega
  generalize hG : (fun y : S60x96x128.Idx => v ⟨(y 0).val % 4, Nat.mod_lt _ (by decide)⟩ (ix3 0 (y 1) (y 2))) = G at key
  refine (writes_at cc0_scratch10 G fo _ ?_ y ?_).trans (congrFun hG.symm y)
  · intro q hq
    simp only [List.mem_cons, List.not_mem_nil, or_false] at hq
    rcases hq with rfl | rfl | rfl | rfl
    · exact key 3
    · exact key 2
    · exact key 1
    · exact key 0
  · have hm : ∀ j : Fin 4, (y 0).val % 4 = j.val → y ∈ (oP i j).set := by
      intro j hj
      have h1 : (y 1).val < 96 := (y 1).isLt
      have h2 : (y 2).val < 128 := (y 2).isLt
      refine Rect.mem_set_unit.2 fun a => ?_
      fin_cases a
      · show 4 * i.val + j.val ≤ (y 0).val ∧ (y 0).val < 4 * i.val + j.val + 1; omega
      · show 0 ≤ (y 1).val ∧ (y 1).val < 0 + 96; omega
      · show 0 ≤ (y 2).val ∧ (y 2).val < 0 + 128; omega
    have h4 : (y 0).val % 4 < 4 := Nat.mod_lt _ (by decide)
    rcases (show (y 0).val % 4 = 0 ∨ (y 0).val % 4 = 1 ∨ (y 0).val % 4 = 2 ∨ (y 0).val % 4 = 3 by omega) with h | h | h | h
    · exact ⟨⟨oP i 0, v 0⟩, List.mem_cons_of_mem _ (List.mem_cons_of_mem _ (List.mem_cons_of_mem _ List.mem_cons_self)), hm 0 h⟩
    · exact ⟨⟨oP i 1, v 1⟩, List.mem_cons_of_mem _ (List.mem_cons_of_mem _ List.mem_cons_self), hm 1 h⟩
    · exact ⟨⟨oP i 2, v 2⟩, List.mem_cons_of_mem _ List.mem_cons_self, hm 2 h⟩
    · exact ⟨⟨oP i 3, v 3⟩, List.mem_cons_self, hm 3 h⟩

/-- A copy's payload read at an index, the result's plane it lands on. -/
theorem rBuf_emb (M : Memref sig .tc .hbm S20x96x128 .bf16) (j : Fin 5) (f : HbBuf (F := F) c M) (i : Fin 15) (g : HbBuf (F := F) c oV)
    (z : (rR j).shape.Idx) : View.read (Elt F) M.view (rBuf c M j f i g) ((rR j).emb z) = g ((oR i).emb z) := by
  unfold rBuf
  exact View.read_writes_cons_emb ..

/-- A result's four planes copied from block `i = b + j` of the scratch. -/
theorem rBuf_at (M : Memref sig .tc .hbm S20x96x128 .bf16) (j : Fin 5) (f : HbBuf (F := F) c M) (i : Fin 15) (fo : HbBuf (F := F) c oV)
    (pl : Fin 15 → Fin 4 → FVec F S1x96x128 .bf16) (b : ℕ) (hb : b ≤ 10) (hi : i.val = b + j.val) (y : S20x96x128.Idx) (hy : y ∈ (rR j).set) :
    View.read (Elt F) M.view (rBuf c M j f i (oBuf c fo i (pl i))) y = resG pl b hb y := by
  obtain ⟨z, rfl⟩ := (rR j).exists_idx_of_mem hy
  have h0 : (z 0).val < 4 := (z 0).isLt
  rw [show (rR j).toLoadRect.idx z = (rR j).emb z from rfl, rBuf_emb]
  refine (oBuf_at c fo i (pl i) ((oR i).emb z) ?_).trans ?_
  · show (4 * i.val + 1 * (z 0).val) / 4 = i.val; omega
  · unfold resG
    have hi' : i = ⟨b + ((rR j).emb z 0).val / 4, by
        show b + (4 * j.val + 1 * (z 0).val) / 4 < 15; have := j.isLt; omega⟩ := by
      apply Fin.ext; show i.val = b + (4 * j.val + 1 * (z 0).val) / 4; omega
    have e0 : ((oR i).emb z 0).val = 4 * i.val + 1 * (z 0).val := rfl
    have f0 : ((rR j).emb z 0).val = 4 * j.val + 1 * (z 0).val := rfl
    rw [show (⟨((oR i).emb z 0).val % 4, Nat.mod_lt _ (by decide)⟩ : Fin 4) = ⟨((rR j).emb z 0).val % 4, Nat.mod_lt _ (by decide)⟩
      from Fin.ext (by simp only [e0, f0]; omega)]
    exact congrArg (fun i' => pl i' _ _) hi'
end

end Cert.Kernel.Hand

end
-- ==== Proof.Join.lean ====
/-
  Scratch buffers and results cut into the pieces the body moves, and put together again.
-/
module

public import proofs.«01_k».proof.Proof.Pure
public import Idealize.ShloMosaic.Lib.Ring.FamCut

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Separating conjunctions over fifteen and over five, written out. -/
theorem sep15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [BI.bigSep_eq_bigSepL_of_eq [0, 1, 2, 3, 4, 5, 6, 7, 8, 9, 10, 11, 12, 13, 14] (by decide) (by decide)]; rfl
/-- Five pieces, written out. -/
theorem sep5 (Φ : Fin 5 → sProp 𝕄) : bigSep Finset.univ Φ = iprop(Φ 0 ∗ Φ 1 ∗ Φ 2 ∗ Φ 3 ∗ Φ 4) := by
  rw [BI.bigSep_eq_bigSepL_of_eq [0, 1, 2, 3, 4] (by decide) (by decide)]; rfl

/-- Different weight chunks are disjoint. -/
theorem wR_disj (i i' : Fin 15) (h : i ≠ i') : Disjoint (wR i).set (wR i').set :=
  Rect.unit_disjoint 0 (by
    show i.val + 1 ≤ i'.val ∨ i'.val + 1 ≤ i.val
    have := Fin.val_ne_of_ne h; omega)
/-- Different chunks' heads are disjoint. -/
theorem oR_disj (i i' : Fin 15) (h : i ≠ i') : Disjoint (oR i).set (oR i').set :=
  Rect.unit_disjoint 0 (by
    show 4 * i.val + 4 ≤ 4 * i'.val ∨ 4 * i'.val + 4 ≤ 4 * i.val
    have := Fin.val_ne_of_ne h; omega)
/-- Different pieces of a result are disjoint. -/
theorem rR_disj (i i' : Fin 5) (h : i ≠ i') : Disjoint (rR i).set (rR i').set :=
  Rect.unit_disjoint 0 (by
    show 4 * i.val + 4 ≤ 4 * i'.val ∨ 4 * i'.val + 4 ≤ 4 * i.val
    have := Fin.val_ne_of_ne h; omega)

/-- The weight chunks cover their buffer. -/
theorem wR_cover : (Finset.univ : Finset (Fin 15)).biUnion (fun i => (wR i).set) = Finset.univ := by
  refine Finset.eq_univ_of_forall fun y => Finset.mem_biUnion.2 ⟨⟨(y 0).val, (y 0).isLt⟩, Finset.mem_univ _, Rect.mem_set_unit.2 fun a => ?_⟩
  have h1 : (y 1).val < 5120 := (y 1).isLt
  have h2 : (y 2).val < 512 := (y 2).isLt
  fin_cases a
  · show (y 0).val ≤ (y 0).val ∧ (y 0).val < (y 0).val + 1; omega
  · show 0 ≤ (y 1).val ∧ (y 1).val < 0 + 5120; omega
  · show 0 ≤ (y 2).val ∧ (y 2).val < 0 + 512; omega
/-- The chunks' heads cover their buffer. -/
theorem oR_cover : (Finset.univ : Finset (Fin 15)).biUnion (fun i => (oR i).set) = Finset.univ := by
  refine Finset.eq_univ_of_forall fun y => ?_
  have h0 : (y 0).val < 60 := (y 0).isLt
  have h1 : (y 1).val < 96 := (y 1).isLt
  have h2 : (y 2).val < 128 := (y 2).isLt
  refine Finset.mem_biUnion.2 ⟨⟨(y 0).val / 4, by omega⟩, Finset.mem_univ _, Rect.mem_set_unit.2 fun a => ?_⟩
  fin_cases a
  · show 4 * ((y 0).val / 4) ≤ (y 0).val ∧ (y 0).val < 4 * ((y 0).val / 4) + 4; omega
  · show 0 ≤ (y 1).val ∧ (y 1).val < 0 + 96; omega
  · show 0 ≤ (y 2).val ∧ (y 2).val < 0 + 128; omega
/-- The pieces of a result cover it. -/
theorem rR_cover : (Finset.univ : Finset (Fin 5)).biUnion (fun i => (rR i).set) = Finset.univ := by
  refine Finset.eq_univ_of_forall fun y => ?_
  have h0 : (y 0).val < 20 := (y 0).isLt
  have h1 : (y 1).val < 96 := (y 1).isLt
  have h2 : (y 2).val < 128 := (y 2).isLt
  refine Finset.mem_biUnion.2 ⟨⟨(y 0).val / 4, by omega⟩, Finset.mem_univ _, Rect.mem_set_unit.2 fun a => ?_⟩
  fin_cases a
  · show 4 * ((y 0).val / 4) ≤ (y 0).val ∧ (y 0).val < 4 * ((y 0).val / 4) + 4; omega
  · show 0 ≤ (y 1).val ∧ (y 1).val < 0 + 96; omega
  · show 0 ≤ (y 2).val ∧ (y 2).val < 0 + 128; omega

section
variable (c : Dev nD) {sp : Space} {S : Shape} {e : EltTy} (M : Memref sig .tc sp S e) (hM : M.IsWhole) {k : ℕ} (R : Fin k → Finset S.Idx)
  (hd : ∀ i i', i ≠ i' → Disjoint (R i) (R i')) (hc : (Finset.univ : Finset (Fin k)).biUnion R = Finset.univ)

include hM hc in
/-- The pieces cover the memory of the buffer. -/
theorem cover_setOn : (Finset.univ : Finset (Fin k)).biUnion (fun i => M.view.setOn (R i)) = Finset.univ := by
  refine Finset.eq_univ_of_forall fun z => ?_
  have hz : z ∈ M.view.set := by rw [hM.set_eq_univ]; exact Finset.mem_univ z
  obtain ⟨y, -, rfl⟩ := Finset.mem_map.1 hz
  have hy : y ∈ (Finset.univ : Finset (Fin k)).biUnion R := by rw [hc]; exact Finset.mem_univ y
  obtain ⟨i, hi, hy⟩ := Finset.mem_biUnion.1 hy
  exact Finset.mem_biUnion.2 ⟨i, hi, (View.mem_setOn M.view).2 hy⟩

include hM hd hc in
/-- A whole buffer is its pieces; -/
theorem cut (f : HbBuf (F := F) c M) :
    (hbPt c M f : sProp 𝕄) = bigSep Finset.univ fun i => M.view.loc (c : Thread nD τ) ↦[M.view.setOn (R i)]{fullShare} f := by
  have h := pointsTo_biUnion (Ix := Unit) (Name := ℕ) (U := Pipeline.UD sig nD τ) (Lvl := ℕ) (ℓ := M.view.loc (c : Thread nD τ)) (q := fullShare) (f := f)
    Finset.univ (fun i => M.view.setOn (R i)) (fun t _ t' _ h => (Finset.disjoint_map _).2 (hd t t' h))
  rw [cover_setOn M hM R hc] at h
  exact h

include hM hd hc in
/-- pieces at contents of their own are the whole buffer at some contents. -/
theorem glue (f₀ : HbBuf (F := F) c M) :
    (bigSep Finset.univ fun i => iprop(∃ f, M.view.loc (c : Thread nD τ) ↦[M.view.setOn (R i)]{fullShare} f)) ⊢ (iprop(∃ g, hbPt c M g) : sProp 𝕄) := by
  have : Nonempty (HbBuf (F := F) c M) := ⟨f₀⟩
  iintro H
  ihave H := (bigSep_exists_pi Finset.univ (fun i (f : HbBuf (F := F) c M) => (M.view.loc (c : Thread nD τ) ↦[M.view.setOn (R i)]{fullShare} f : sProp 𝕄))) $$ H
  icases H with ⟨%fs, H⟩
  ihave H := (pointsTo_biUnion_join Finset.univ (fun i => M.view.setOn (R i)) fs f₀
    (fun t _ t' _ h => (Finset.disjoint_map _).2 (hd t t' h))) $$ H
  icases H with ⟨%g, -, H⟩
  rw [cover_setOn M hM R hc]
  iexists g; iexact H
end

/-- A result's five copied pieces are the result at the heads' planes. -/
theorem glue_r (c : Dev nD) (M : Memref sig .tc .hbm S20x96x128 .bf16) (hM : M.IsWhole)
    (hr : ∀ (f g : HbBuf (F := F) c M) (y : S20x96x128.Idx), M.view.read (Elt F) f y = M.view.read (Elt F) g y → f (M.view.emb y) = g (M.view.emb y))
    (f : HbBuf (F := F) c M) (fo : HbBuf (F := F) c oV) (pl : Fin 15 → Fin 4 → FVec F S1x96x128 .bf16) (b : ℕ) (hb : b ≤ 10)
    (G : HbBuf (F := F) c M) (hG : M.view.read (Elt F) G = resG pl b hb) :
    (bigSep Finset.univ fun j : Fin 5 => M.view.loc (c : Thread nD τ) ↦[M.view.setOn (rR j).set]{fullShare}
      rBuf c M j f ⟨b + j.val, by omega⟩ (oBuf c fo ⟨b + j.val, by omega⟩ (pl ⟨b + j.val, by omega⟩))) ⊢ (hbPt c M G : sProp 𝕄) := by
  rw [cut c M hM (fun j : Fin 5 => (rR j).set) rR_disj rR_cover G]
  refine bigSep_mono fun j _ => Entails.of_eq (pointsTo_congr fun z hz => ?_)
  obtain ⟨y, hy, rfl⟩ := Finset.mem_map.1 hz
  refine hr _ _ y ?_
  rw [rBuf_at c M j f _ fo pl b hb rfl y hy, hG]

section
variable (c : Dev nD) (x : HbBuf (F := F) c xM) (n : HbBuf (F := F) c nM) (p : HbBuf (F := F) c pM) (w : HbBuf (F := F) c wM) (s : HbBuf (F := F) c sM)
  (fw : HbBuf (F := F) c wV) (fo : HbBuf (F := F) c oV)

abbrev dq (j : Fin 5) (i : Fin 15) (f : HbBuf (F := F) c qM) : sProp 𝕄 :=
  qM.view.loc (c : Thread nD τ) ↦[qM.view.setOn (rR j).set]{fullShare} rBuf c qM j f i (oBuf c fo i (storedR c w fw (codesV x n) (scaleV x n) s p i))
abbrev dk (j : Fin 5) (i : Fin 15) (f : HbBuf (F := F) c kM) : sProp 𝕄 :=
  kM.view.loc (c : Thread nD τ) ↦[kM.view.setOn (rR j).set]{fullShare} rBuf c kM j f i (oBuf c fo i (storedR c w fw (codesV x n) (scaleV x n) s p i))
abbrev dv (j : Fin 5) (i : Fin 15) (f : HbBuf (F := F) c vM) : sProp 𝕄 :=
  vM.view.loc (c : Thread nD τ) ↦[vM.view.setOn (rR j).set]{fullShare} rBuf c vM j f i (oBuf c fo i (storedP c w fw (codesV x n) (scaleV x n) s i))

/-- The five copies of the queries, of the keys, of the values, together. -/
theorem glueQ (f : HbBuf (F := F) c qM) : iprop(dq c x n p w s fw fo 0 0 f ∗ dq c x n p w s fw fo 1 1 f ∗ dq c x n p w s fw fo 2 2 f
    ∗ dq c x n p w s fw fo 3 3 f ∗ dq c x n p w s fw fo 4 4 f) ⊢ (hbPt c qM (qG x n p w s) : sProp 𝕄) := by
  simp only [dq, storedR_eq]
  have h := glue_r (F := F) c qM (Memref.isWhole_whole _) (fun _ _ _ h => h) f fo (planeR x n p w s) 0 (by decide) (qG x n p w s) rfl
  rw [sep5] at h
  exact h
/-- The same of the keys. -/
theorem glueK (f : HbBuf (F := F) c kM) : iprop(dk c x n p w s fw fo 0 5 f ∗ dk c x n p w s fw fo 1 6 f ∗ dk c x n p w s fw fo 2 7 f
    ∗ dk c x n p w s fw fo 3 8 f ∗ dk c x n p w s fw fo 4 9 f) ⊢ (hbPt c kM (kG x n p w s) : sProp 𝕄) := by
  simp only [dk, storedR_eq]
  have h := glue_r (F := F) c kM (Memref.isWhole_whole _) (fun _ _ _ h => h) f fo (planeR x n p w s) 5 (by decide) (kG x n p w s) rfl
  rw [sep5] at h
  exact h
/-- The same of the values. -/
theorem glueV (f : HbBuf (F := F) c vM) : iprop(dv c x n w s fw fo 0 10 f ∗ dv c x n w s fw fo 1 11 f ∗ dv c x n w s fw fo 2 12 f
    ∗ dv c x n w s fw fo 3 13 f ∗ dv c x n w s fw fo 4 14 f) ⊢ (hbPt c vM (vG x n w s) : sProp 𝕄) := by
  simp only [dv, storedP_eq]
  have h := glue_r (F := F) c vM (Memref.isWhole_whole _) (fun _ _ _ h => h) f fo (planeP x n w s) 10 (by decide) (vG x n w s) rfl
  rw [sep5] at h
  exact h

/-- The slots of the weight scratch, together; -/
theorem glueW (f₀ : HbBuf (F := F) c wV) : iprop((∃ f, wPt c 0 f) ∗ (∃ f, wPt c 1 f) ∗ (∃ f, wPt c 2 f) ∗ (∃ f, wPt c 3 f) ∗ (∃ f, wPt c 4 f) ∗ (∃ f, wPt c 5 f) ∗ (∃ f, wPt c 6 f) ∗ (∃ f, wPt c 7 f) ∗ (∃ f, wPt c 8 f) ∗ (∃ f, wPt c 9 f) ∗ (∃ f, wPt c 10 f) ∗ (∃ f, wPt c 11 f) ∗ (∃ f, wPt c 12 f) ∗ (∃ f, wPt c 13 f) ∗ (∃ f, wPt c 14 f))
    ⊢ (iprop(∃ f, hbPt c wV f) : sProp 𝕄) := by
  have h := glue c wV (Memref.isWhole_whole _) (fun i : Fin 15 => (wR i).set) wR_disj wR_cover f₀
  rw [sep15] at h
  exact h
/-- the blocks of the output scratch, together. -/
theorem glueO (f₀ : HbBuf (F := F) c oV) : iprop((∃ f, oPt c 0 f) ∗ (∃ f, oPt c 1 f) ∗ (∃ f, oPt c 2 f) ∗ (∃ f, oPt c 3 f) ∗ (∃ f, oPt c 4 f) ∗ (∃ f, oPt c 5 f) ∗ (∃ f, oPt c 6 f) ∗ (∃ f, oPt c 7 f) ∗ (∃ f, oPt c 8 f) ∗ (∃ f, oPt c 9 f) ∗ (∃ f, oPt c 10 f) ∗ (∃ f, oPt c 11 f) ∗ (∃ f, oPt c 12 f) ∗ (∃ f, oPt c 13 f) ∗ (∃ f, oPt c 14 f))
    ⊢ (iprop(∃ f, hbPt c oV f) : sProp 𝕄) := by
  have h := glue c oV (Memref.isWhole_whole _) (fun i : Fin 15 => (oR i).set) oR_disj oR_cover f₀
  rw [sep15] at h
  exact h
/-- The weight buffer, cut into its chunks. -/
theorem cutW (f : HbBuf (F := F) c wV) : (hbPt c wV f : sProp 𝕄) ⊢ iprop(wPt c 0 f ∗ wPt c 1 f ∗ wPt c 2 f ∗ wPt c 3 f ∗ wPt c 4 f ∗ wPt c 5 f
    ∗ wPt c 6 f ∗ wPt c 7 f ∗ wPt c 8 f ∗ wPt c 9 f ∗ wPt c 10 f ∗ wPt c 11 f ∗ wPt c 12 f ∗ wPt c 13 f ∗ wPt c 14 f) := by
  have h := cut c wV (Memref.isWhole_whole _) (fun i : Fin 15 => (wR i).set) wR_disj wR_cover f
  rw [sep15] at h
  exact Entails.of_eq h
/-- The head buffer, cut into the chunks' heads. -/
theorem cutO (f : HbBuf (F := F) c oV) : (hbPt c oV f : sProp 𝕄) ⊢ iprop(oPt c 0 f ∗ oPt c 1 f ∗ oPt c 2 f ∗ oPt c 3 f ∗ oPt c 4 f ∗ oPt c 5 f
    ∗ oPt c 6 f ∗ oPt c 7 f ∗ oPt c 8 f ∗ oPt c 9 f ∗ oPt c 10 f ∗ oPt c 11 f ∗ oPt c 12 f ∗ oPt c 13 f ∗ oPt c 14 f) := by
  have h := cut c oV (Memref.isWhole_whole _) (fun i : Fin 15 => (oR i).set) oR_disj oR_cover f
  rw [sep15] at h
  exact Entails.of_eq h
/-- A result, cut into its pieces. -/
theorem cutR (M : Memref sig .tc .hbm S20x96x128 .bf16) (hM : M.IsWhole) (f : HbBuf (F := F) c M) :
    (hbPt c M f : sProp 𝕄) ⊢ iprop(rPt c M 0 f ∗ rPt c M 1 f ∗ rPt c M 2 f ∗ rPt c M 3 f ∗ rPt c M 4 f) := by
  have h := cut c M hM (fun i : Fin 5 => (rR i).set) rR_disj rR_cover f
  rw [sep5] at h
  exact Entails.of_eq h

/-- The row of scales as the body copies it out. -/
theorem row_eq (fr : HbBuf (F := F) c rV) (faM : HbBuf (F := F) c aM) :
    View.write (Elt F) aM.view faM (ReadAs.same.apply (View.read (Elt F) rV.view (rV.view.writes (Elt F) fr
      [⟨Rect.unit ![0, 0] S1x96.size inb_S1x96_S1x96_0_0, k0_pay48 (k0_pay47 (View.readAt (Elt F) aV.view
        (Rect.unit (s := S96x128) ![0, 0] S96x1.size inb_S96x128_S96x1_0_0).toLoadRect (scaleV x n)))⟩]))) Finset.univ = aG x n := by
  refine (View.write_whole_univ ..).trans ?_
  funext y
  refine (View.read_writes_apply_eq_canon rV.view fr y _ (View.cover_of_tiledL (s := S1x96) _ S1x96.size (by sl_kernel_rfl) y)).trans ?_
  rw [View.canon_unit_zero (zero2 (d := ![0, 0]))]
  rfl

/-- A block of the output scratch a copy gave back. -/
theorem src_eq (i : Fin 15) (g : HbBuf (F := F) c oV) :
    (oV.view.loc (c : Thread nD τ) ↦[(oV.slice (oR i) (fun _ => rfl)).view.set]{fullShare} g : sProp 𝕄) ⊢ iprop(∃ f, oPt c i f) := by
  rw [show (oV.slice (oR i) (fun _ => rfl)).view.set = oV.view.setOn (oR i).set from View.set_slice ..]
  iintro H; iexists g; iexact H

/-- Two half shares together. -/
theorem unhalve {sp : Space} {S : Shape} {e : EltTy} (M : Memref sig .tc sp S e) (f : HbBuf (F := F) c M) :
    iprop((M.view.loc (c : Thread nD τ) ↦{fullShare.left} f) ∗ (M.view.loc (c : Thread nD τ) ↦{fullShare.right} f)) ⊢ (hbPt c M f : sProp 𝕄) :=
  (pointsTo_share (PosShare.mem_left_op_right fullShare)).2

/-- What the body takes: the operands, and every other buffer at anything, the counters at zero, nothing owed. -/
def bodyTakes (W : Waits sig Unit) : sProp 𝕄 :=
  iprop(hbPt c xM x ∗ hbPt c nM n ∗ hbPt c pM p ∗ hbPt c wM w ∗ hbPt c sM s
    ∗ (∃ f, hbPt c xV f) ∗ (∃ f, hbPt c nV f) ∗ (∃ f, hbPt c pV f) ∗ (∃ f, hbPt c sV f) ∗ (∃ f, hbPt c wV f) ∗ (∃ f, hbPt c cV f)
    ∗ (∃ f, hbPt c aV f) ∗ (∃ f, hbPt c rV f) ∗ (∃ f, hbPt c cosV f) ∗ (∃ f, hbPt c sinV f) ∗ (∃ f, hbPt c oV f)
    ∗ (∃ f, hbPt c qM f) ∗ (∃ f, hbPt c kM f) ∗ (∃ f, hbPt c vM f) ∗ (∃ f, hbPt c cM f) ∗ (∃ f, hbPt c aM f)
    ∗ semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20 ∗ owes (c : Thread nD τ) 0 W)
/-- What it gives: the operands, the scratch at anything, the results at their values, the counters at zero, nothing owed. -/
def bodyGives : sProp 𝕄 :=
  iprop(hbPt c xM x ∗ hbPt c nM n ∗ hbPt c pM p ∗ hbPt c wM w ∗ hbPt c sM s
    ∗ (∃ f, hbPt c xV f) ∗ (∃ f, hbPt c nV f) ∗ (∃ f, hbPt c pV f) ∗ (∃ f, hbPt c sV f) ∗ (∃ f, hbPt c wV f) ∗ (∃ f, hbPt c cV f)
    ∗ (∃ f, hbPt c aV f) ∗ (∃ f, hbPt c rV f) ∗ (∃ f, hbPt c cosV f) ∗ (∃ f, hbPt c sinV f) ∗ (∃ f, hbPt c oV f)
    ∗ hbPt c qM (qG x n p w s) ∗ hbPt c kM (kG x n p w s) ∗ hbPt c vM (vG x n w s) ∗ hbPt c cM (codesV x n) ∗ hbPt c aM (aG x n)
    ∗ semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20 ∗ ∃ W, owes (c : Thread nD τ) 0 W)
end

end Cert.Kernel.Hand

end
-- ==== Proof.Body.lean ====
module

public import proofs.«01_k».proof.Proof.Join

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

set_option maxHeartbeats 8000000 in
set_option maxRecDepth 65536 in
/-- The body, from its operands to its results at their values. -/
theorem body_runs (c : Dev nD) (x : HbBuf (F := F) c xM) (n : HbBuf (F := F) c nM) (p : HbBuf (F := F) c pM) (w : HbBuf (F := F) c wM) (s : HbBuf (F := F) c sM)
    (W : Waits sig Unit) (K : PUnit → sProp 𝕄) :
    iprop(bodyTakes c x n p w s W ∗ (bodyGives c x n p w s -∗ K ⟨⟩)) ⊢ wp frame (wpE (defs₀ (F := F)) Variants.none c none) Set.univ body K := by
  unfold body bodyAt0 bodyTakes
  simp only [cc0_rmsnorm_fp8_qkv_rope_eq_skeleton]; unfold cc0_rmsnorm_fp8_qkv_rope_skel
  iintro ⟨⟨Hx, Hn, Hp, Hw, Hs, ⟨%fx, Hfx⟩, ⟨%fn, Hfn⟩, ⟨%fp, Hfp⟩, ⟨%fs, Hfs⟩, ⟨%fw, Hfw⟩, ⟨%fc, Hfc⟩, ⟨%fa, Hfa⟩, ⟨%fr, Hfr⟩, ⟨%fcos, Hfcos⟩, ⟨%fsin, Hfsin⟩,
    ⟨%fo, Hfo⟩, ⟨%fq, Hfq⟩, ⟨%fk, Hfk⟩, ⟨%fv, Hfv⟩, ⟨%fcM, HcM⟩, ⟨%faM, HaM⟩, Q0, Q1, Q2, Q3, Q4, Q5, Q6, Q7, Q8, Q9, Q10, Q11, Q12, Q13, Q14, Q15, Q16, Q17, Q18, Q19, Q20, HO⟩, HK⟩
  ihave ⟨W0, W1, W2, W3, W4, W5, W6, W7, W8, W9, W10, W11, W12, W13, W14⟩ := (cutW c fw) $$ Hfw
  ihave ⟨O0, O1, O2, O3, O4, O5, O6, O7, O8, O9, O10, O11, O12, O13, O14⟩ := (cutO c fo) $$ Hfo
  ihave ⟨R0, R1, R2, R3, R4⟩ := (cutR c qM (Memref.isWhole_whole _) fq) $$ Hfq
  ihave ⟨R5, R6, R7, R8, R9⟩ := (cutR c kM (Memref.isWhole_whole _) fk) $$ Hfk
  ihave ⟨R10, R11, R12, R13, R14⟩ := (cutR c vM (Memref.isWhole_whole _) fv) $$ Hfv
  ihave HcM := (park _) $$ HcM
  sl_exec_parts
  ihave HcM := (unpark _) $$ HcM
  ihave Hfc := (gen c cV _) $$ Hfc
  icases Hfc with ⟨%cb, %hcb, Hfc⟩
  ihave Hfa := (gen c aV _) $$ Hfa
  icases Hfa with ⟨%ab, %hab, Hfa⟩
  have hcb : Same cb (codesB c x n fx fn fc) := ⟨hcb.eq.trans rfl⟩
  have hab : Same ab (scaleB c x n fx fn fa) := ⟨hab.eq.trans rfl⟩
  ihave Hfs := (gen c sV _) $$ Hfs
  icases Hfs with ⟨%sb, %hsb, Hfs⟩
  ihave Hfp := (gen c pV _) $$ Hfp
  icases Hfp with ⟨%pb, %hpb, Hfp⟩
  ihave Hfc := (halves c cV _) $$ Hfc
  icases Hfc with ⟨Hfc, Hfc'⟩
  ihave Hfc := (park _) $$ Hfc
  imod (Transfers.mixedBatch_alloc' (Lvl := ℕ) (countersEmb (U := Pipeline.UD sig nD τ)) (c : Thread nD τ) () amt
      (deliv c w fw cb ab sb pb fcM fo fq fk fv) (sm := SemLoc.dma 19) (E := Set.univ)) $$ Q19 with HB
  unfold deliv
  set_option sl_exec.maxSteps 1 in sl_exec_parts
  ihave Hfc := (unpark _) $$ Hfc
  sl_exec_parts
  sl_step
  ihave Hc := (unhalve c cV cb) $$ [Hfc Hfc']
  · isplitl [Hfc]; · iexact Hfc
    iexact Hfc'
  obtain ⟨hcb⟩ := hcb
  obtain ⟨hab⟩ := hab
  obtain ⟨hsb⟩ := hsb
  obtain ⟨hpb⟩ := hpb
  rw [codesB_eq] at hcb
  rw [scaleB_eq] at hab
  replace hsb : sb = s := hsb.trans (View.write_whole_univ ..)
  replace hpb : pb = p := hpb.trans (View.write_whole_univ ..)
  subst hcb hab
  subst sb
  subst pb
  ihave GQ := (glueQ c x n p w s fw fo fq) $$ [HB_dst1 HB_dst2 HB_dst3 HB_dst4 HB_dst5]
  · isplitl [HB_dst1]; · iexact HB_dst1
    isplitl [HB_dst2]; · iexact HB_dst2
    isplitl [HB_dst3]; · iexact HB_dst3
    isplitl [HB_dst4]; · iexact HB_dst4
    iexact HB_dst5
  ihave GK := (glueK c x n p w s fw fo fk) $$ [HB_dst6 HB_dst7 HB_dst8 HB_dst9 HB_dst10]
  · isplitl [HB_dst6]; · iexact HB_dst6
    isplitl [HB_dst7]; · iexact HB_dst7
    isplitl [HB_dst8]; · iexact HB_dst8
    isplitl [HB_dst9]; · iexact HB_dst9
    iexact HB_dst10
  ihave GV := (glueV c x n w s fw fo fv) $$ [HB_dst11 HB_dst12 HB_dst13 HB_dst14 HB_dst15]
  · isplitl [HB_dst11]; · iexact HB_dst11
    isplitl [HB_dst12]; · iexact HB_dst12
    isplitl [HB_dst13]; · iexact HB_dst13
    isplitl [HB_dst14]; · iexact HB_dst14
    iexact HB_dst15
  ihave GW := (glueW c fw) $$ [W0 W1 W2 W3 W4 W5 W6 W7 W8 W9 W10 W11 W12 W13 W14]
  · isplitl [W0]; · iexists _; iexact W0
    isplitl [W1]; · iexists _; iexact W1
    isplitl [W2]; · iexists _; iexact W2
    isplitl [W3]; · iexists _; iexact W3
    isplitl [W4]; · iexists _; iexact W4
    isplitl [W5]; · iexists _; iexact W5
    isplitl [W6]; · iexists _; iexact W6
    isplitl [W7]; · iexists _; iexact W7
    isplitl [W8]; · iexists _; iexact W8
    isplitl [W9]; · iexists _; iexact W9
    isplitl [W10]; · iexists _; iexact W10
    isplitl [W11]; · iexists _; iexact W11
    isplitl [W12]; · iexists _; iexact W12
    isplitl [W13]; · iexists _; iexact W13
    iexists _; iexact W14
  ihave GO := (glueO c fo) $$ [HB_src1 HB_src2 HB_src3 HB_src4 HB_src5 HB_src6 HB_src7 HB_src8 HB_src9 HB_src10 HB_src11 HB_src12 HB_src13 HB_src14 HB_src15]
  · isplitl [HB_src1]; · iapply (src_eq c 0 _); iexact HB_src1
    isplitl [HB_src2]; · iapply (src_eq c 1 _); iexact HB_src2
    isplitl [HB_src3]; · iapply (src_eq c 2 _); iexact HB_src3
    isplitl [HB_src4]; · iapply (src_eq c 3 _); iexact HB_src4
    isplitl [HB_src5]; · iapply (src_eq c 4 _); iexact HB_src5
    isplitl [HB_src6]; · iapply (src_eq c 5 _); iexact HB_src6
    isplitl [HB_src7]; · iapply (src_eq c 6 _); iexact HB_src7
    isplitl [HB_src8]; · iapply (src_eq c 7 _); iexact HB_src8
    isplitl [HB_src9]; · iapply (src_eq c 8 _); iexact HB_src9
    isplitl [HB_src10]; · iapply (src_eq c 9 _); iexact HB_src10
    isplitl [HB_src11]; · iapply (src_eq c 10 _); iexact HB_src11
    isplitl [HB_src12]; · iapply (src_eq c 11 _); iexact HB_src12
    isplitl [HB_src13]; · iapply (src_eq c 12 _); iexact HB_src13
    isplitl [HB_src14]; · iapply (src_eq c 13 _); iexact HB_src14
    iapply (src_eq c 14 _); iexact HB_src15
  iapply HK
  unfold bodyGives
  isplitl [Hx]; · iexact Hx
  isplitl [Hn]; · iexact Hn
  isplitl [Hp]; · iexact Hp
  isplitl [Hw]; · iexact Hw
  isplitl [Hs]; · iexact Hs
  isplitl [Hfx]; · iexists _; iexact Hfx
  isplitl [Hfn]; · iexists _; iexact Hfn
  isplitl [Hfp]; · iexists _; iexact Hfp
  isplitl [Hfs]; · iexists _; iexact Hfs
  isplitl [GW]; · iexact GW
  isplitl [Hc]; · iexists _; iexact Hc
  isplitl [Hfa]; · iexists _; iexact Hfa
  isplitl [Hfr]; · iexists _; iexact Hfr
  isplitl [Hfcos]; · iexists _; iexact Hfcos
  isplitl [Hfsin]; · iexists _; iexact Hfsin
  isplitl [GO]; · iexact GO
  isplitl [GQ]; · iexact GQ
  isplitl [GK]; · iexact GK
  isplitl [GV]; · iexact GV
  isplitl [HB_dst0]
  · rw [show (View.write (Elt F) cM.view fcM (ReadAs.same.apply (View.read (Elt F) cV.view (codesV x n))) Finset.univ : HbBuf (F := F) c cM) = codesV x n from View.write_whole_univ ..]
    iexact HB_dst0
  isplitl [HaM]
  · rw [← row_eq c x n fr faM]; iexact HaM
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [HB]; · iexact HB
  isplitl [Q20]; · iexact Q20
  iexists _; iexact HO

end Cert.Kernel.Hand

end
-- ==== Proof.Run.lean ====
/-
  The launch of the kernel: the program runs, and leaves its results at their values, its arguments as they were and every counter at zero.
-/
module

public import proofs.«01_k».proof.Proof.Body
public import Idealize.ShloMosaic.Lib.Pipeline.FrameSuffixV

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The kernel's own semaphores. -/
abbrev osem0 : Fin 21 → SemLoc sig := fun j => SemLoc.dma ⟨j.val, by have := j.isLt; exact this⟩
/-- The kernel's semaphores are its own. -/
theorem ownSemFacts0 : Pipeline.OwnSemFacts cfg0.spec osem0 := by decide
/-- The kernel's semaphores, written out. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20) := by
  rw [Pipeline.ownSems0_eq_of_list c osem0 [0, 1, 2, 3, 4, 5, 6, 7, 8, 9, 10, 11, 12, 13, 14, 15, 16, 17, 18, 19, 20] (by decide) (by decide)]; rfl
/-- The buffers the body reads in HBM, the ones it writes there. -/
def H0 : Finset (Ref sig .tc) := {main_v0, main_v1, main_v2, main_arg3, main_arg4}
def R0 : Finset (Ref sig .tc) := {main_v3_0, main_v3_1, main_v3_2, main_v3_3, main_v3_4}
/-- The operands are among the buffers that the region does not stage. -/
theorem H0_sub : H0 ⊆ Pipeline.restRefs sig cfg0.spec := by decide
/-- The results are too, and are no operands. -/
theorem R0_sub : R0 ⊆ Pipeline.restRefs sig cfg0.spec \ H0 := by decide
/-- The operands, written out. -/
theorem H0_eq (c : Dev nD) :
    (bigSep H0 (fun b => ((c : Thread nD τ).loc b) ↦{fullShare} V m c b) : sProp 𝕄)
      = iprop(hbPt c xM (V m c main_v0) ∗ hbPt c nM (V m c main_v1) ∗ hbPt c pM (V m c main_v2) ∗ hbPt c wM (V m c main_arg3) ∗ hbPt c sM (V m c main_arg4)) := by
  rw [BI.bigSep_eq_bigSepL_of_eq [main_v0, main_v1, main_v2, main_arg3, main_arg4] (by decide) (by decide)]; rfl
/-- The results, written out. -/
theorem R0_eq (c : Dev nD) (G : (b : Ref sig .tc) → Buf (Elt F) ((c : Thread nD τ).loc b)) :
    (bigSep R0 (fun b => ((c : Thread nD τ).loc b) ↦{fullShare} G b) : sProp 𝕄)
      = iprop(hbPt c qM (G main_v3_0) ∗ hbPt c kM (G main_v3_1) ∗ hbPt c vM (G main_v3_2) ∗ hbPt c cM (G main_v3_3) ∗ hbPt c aM (G main_v3_4)) := by
  rw [BI.bigSep_eq_bigSepL_of_eq [main_v3_0, main_v3_1, main_v3_2, main_v3_3, main_v3_4] (by decide) (by decide)]; rfl

/-- What the region leaves in each buffer: the results at their values. -/
def G (c : Dev nD) : (b : Ref sig .tc) → Buf (Elt F) ((c : Thread nD τ).loc b) :=
  Function.update (Function.update (Function.update (Function.update (Function.update (V m c)
    main_v3_0 (qG (V m c main_v0) (V m c main_v1) (V m c main_v2) (V m c main_arg3) (V m c main_arg4)))
    main_v3_1 (kG (V m c main_v0) (V m c main_v1) (V m c main_v2) (V m c main_arg3) (V m c main_arg4)))
    main_v3_2 (vG (V m c main_v0) (V m c main_v1) (V m c main_arg3) (V m c main_arg4)))
    main_v3_3 (codesV (V m c main_v0) (V m c main_v1)))
    main_v3_4 (aG (V m c main_v0) (V m c main_v1))
/-- The region leaves the queries. -/
theorem G_q (c : Dev nD) : G m c main_v3_0 = qG (V m c main_v0) (V m c main_v1) (V m c main_v2) (V m c main_arg3) (V m c main_arg4) := by
  unfold G
  rw [Function.update_of_ne (by decide), Function.update_of_ne (by decide), Function.update_of_ne (by decide), Function.update_of_ne (by decide), Function.update_self]
/-- The region leaves the keys. -/
theorem G_k (c : Dev nD) : G m c main_v3_1 = kG (V m c main_v0) (V m c main_v1) (V m c main_v2) (V m c main_arg3) (V m c main_arg4) := by
  unfold G
  rw [Function.update_of_ne (by decide), Function.update_of_ne (by decide), Function.update_of_ne (by decide), Function.update_self]
/-- The region leaves the values. -/
theorem G_v (c : Dev nD) : G m c main_v3_2 = vG (V m c main_v0) (V m c main_v1) (V m c main_arg3) (V m c main_arg4) := by
  unfold G
  rw [Function.update_of_ne (by decide), Function.update_of_ne (by decide), Function.update_self]
/-- The region leaves the codes. -/
theorem G_c (c : Dev nD) : G m c main_v3_3 = codesV (V m c main_v0) (V m c main_v1) := by
  unfold G
  rw [Function.update_of_ne (by decide), Function.update_self]
/-- The region leaves the scales. -/
theorem G_a (c : Dev nD) : G m c main_v3_4 = aG (V m c main_v0) (V m c main_v1) := by
  unfold G
  rw [Function.update_self]

/-- The proof data: no window, the body's buffers as it takes them and as it gives them. -/
def dats (_ : Fin 1) (c : Dev nD) : Dat τ (Elt F) Unit ℕ (Pipeline.UD sig nD τ) ℕ cfg0 c where
  A w := V m c (Pipeline.arrRef cfg0.spec w)
  after w t := w.elim0
  Φ t := if t = 0 then Pipeline.ΦDRV osem0 cfg0.spec H0 R0 (V m) (V m) c else Pipeline.ΦDRV osem0 cfg0.spec H0 R0 (V m) (G m) c
  q _ := fullShare
  owed _ := 0

/-- What the body takes at its one step. -/
theorem Phi_first (c : Dev nD) (t : Fin cfg0.N) : (dats m 0 c).Φ t.castSucc = Pipeline.ΦDRV osem0 cfg0.spec H0 R0 (V m) (V m) c := by
  dsimp only [dats]; rw [fin_N0 t]; exact if_pos rfl
/-- What the body gives at its one step. -/
theorem Phi_last (c : Dev nD) (t : Fin cfg0.N) : (dats m 0 c).Φ t.succ = Pipeline.ΦDRV osem0 cfg0.spec H0 R0 (V m) (G m) c := by
  dsimp only [dats]; exact if_neg (Fin.succ_ne_zero t)

def pre (c : Dev nD) (t : Fin cfg0.N) : sProp 𝕄 := iprop((dats m 0 c).Φ t.castSucc ∗ (dats m 0 c).owesAt () t.castSucc ∗ emp)
def post (c : Dev nD) (t : Fin cfg0.N) : sProp 𝕄 := iprop((dats m 0 c).Φ t.succ ∗ (dats m 0 c).owesAt () t.succ ∗ emp)

set_option maxHeartbeats 1600000 in
/-- The body takes its buffers and gives them back with the results at their values. -/
theorem sound_body (c : Dev nD) (t : Fin cfg0.N) :
    pre m c t ⊢ wp frame (wpE (defs₀ (F := F)) Variants.none c none) Set.univ (bodyAt0 t) (fun _ => post m c t) := by
  unfold pre post
  rw [Phi_first, Phi_last, show (bodyAt0 t : Prog (TpuEff nD τ sig (Elt F) Λ₀ .tc) PUnit) = body from rfl]
  unfold Pipeline.ΦDRV
  rw [scopedRest0_eq, ownSems00_eq, H0_eq, R0_eq, R0_eq, G_q, G_k, G_v, G_c, G_a]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10⟩, ⟨Q0, Q1, Q2, Q3, Q4, Q5, Q6, Q7, Q8, Q9, Q10, Q11, Q12, Q13, Q14, Q15, Q16, Q17, Q18, Q19, Q20⟩, ⟨Hx, Hn, Hp, Hw, Hs⟩, ⟨Rq, Rk, Rv, Rc, Ra⟩⟩, ⟨%W, -, HW⟩, -⟩
  iapply (body_runs c (V m c main_v0) (V m c main_v1) (V m c main_v2) (V m c main_arg3) (V m c main_arg4) W _)
  isplitl [S0 S1 S2 S3 S4 S5 S6 S7 S8 S9 S10 Q0 Q1 Q2 Q3 Q4 Q5 Q6 Q7 Q8 Q9 Q10 Q11 Q12 Q13 Q14 Q15 Q16 Q17 Q18 Q19 Q20 Hx Hn Hp Hw Hs Rq Rk Rv Rc Ra HW]
  · unfold bodyTakes
    isplitl [Hx]; · iexact Hx
    isplitl [Hn]; · iexact Hn
    isplitl [Hp]; · iexact Hp
    isplitl [Hw]; · iexact Hw
    isplitl [Hs]; · iexact Hs
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Rq]; · iexists _; iexact Rq
    isplitl [Rk]; · iexists _; iexact Rk
    isplitl [Rv]; · iexists _; iexact Rv
    isplitl [Rc]; · iexists _; iexact Rc
    isplitl [Ra]; · iexists _; iexact Ra
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexact HW
  unfold bodyGives
  iintro ⟨Hx, Hn, Hp, Hw, Hs, S0, S1, S2, S3, S4, S5, S6, S7, S8, S9, S10, Rq, Rk, Rv, Rc, Ra, Q0, Q1, Q2, Q3, Q4, Q5, Q6, Q7, Q8, Q9, Q10, Q11, Q12, Q13, Q14, Q15, Q16, Q17, Q18, Q19, Q20, ⟨%W', HW'⟩⟩
  isplitl [S0 S1 S2 S3 S4 S5 S6 S7 S8 S9 S10 Q0 Q1 Q2 Q3 Q4 Q5 Q6 Q7 Q8 Q9 Q10 Q11 Q12 Q13 Q14 Q15 Q16 Q17 Q18 Q19 Q20 Hx Hn Hp Hw Hs Rq Rk Rv Rc Ra]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Q0 Q1 Q2 Q3 Q4 Q5 Q6 Q7 Q8 Q9 Q10 Q11 Q12 Q13 Q14 Q15 Q16 Q17 Q18 Q19 Q20]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      iexact Q20
    isplitl [Hx Hn Hp Hw Hs]
    · isplitl [Hx]; · iexact Hx
      isplitl [Hn]; · iexact Hn
      isplitl [Hp]; · iexact Hp
      isplitl [Hw]; · iexact Hw
      iexact Hs
    isplitl [Rq]; · iexact Rq
    isplitl [Rk]; · iexact Rk
    isplitl [Rv]; · iexact Rv
    isplitl [Rc]; · iexact Rc
    iexact Ra
  isplitl [HW']
  · iexists W'; isplitr; · ipureintro; exact fun _ _ => Or.inl trivial
    iexact HW'
  iempintro

/-- The body's row in the table of bodies. -/
theorem defs₀_row (t : Fin cfg0.N) :
    defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_body m c t) rfl .rfl fun _ => .rfl

/-- The host lines before and after the region. -/
theorem hmainD : Pipeline.HMainK (Ix := Unit) (Name := ℕ) (U := Pipeline.UD sig nD τ) (Lvl := ℕ) cfgs 0 defs₀ Variants.none m (main (F := F))
    (fun c b => V0 m c (Proc.devRef .tc b)) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- A region that stages no window changes no array that way. -/
theorem withArrays_none {gr : ℕ} (win : Fin 0 → Pipeline.WinSpec sig gr) (c : Dev nD) (W : Valuation τ sig (Elt F))
    (A : (w : Fin 0) → Buf (Elt F) ((win w).arr.view.loc (c.tc : Thread nD τ))) : Pipeline.withArrays win c W A = W :=
  funext fun _ => dif_neg fun ⟨w, _⟩ => w.elim0

/-- What a buffer of @main holds at the end: what the host lines after the region make of what the region left. -/
def atEnd (c : Dev nD) : Valuation τ sig (Elt F) :=
  StableHlo.after hostOps1 (Pipeline.withR (V0 m c) R0 c (G m c))

set_option backward.isDefEq.respectTransparency.types false in
/-- The program runs, and leaves each buffer as the host lines after the region leave it, and every counter at zero. -/
theorem run_main : θ_run defs (onTc (τ := τ) (main (F := F))) (s₀ m ρ)
    (fun r => (∀ c : Dev nD, ∀ b ∈ Pipeline.restRefs sig cfg0.spec, r.2.mem ((c.tc : Thread nD τ).loc b) = atEnd m c (Proc.devRef .tc b)) ∧ r.2.sem = fun _ => 0) :=
  Pipeline.θ_run_frame_dmaR_aroundV (Q' := _) (hQ' := fun r h => ⟨fun c b hb => ((h.1 c).2 b hb).trans (congrFun (congrArg (StableHlo.after hostOps1) (withArrays_none ..)) _), h.2⟩) cfgs (dats m) (0 : Fin 1) launch0 osem0 defs₀ Variants.none ownSemFacts0 H0 R0 H0_sub R0_sub m ρ main
    (fun c => (body_obligation m c).loose) (fun c w => w.elim0) (fun _ _ => rfl) (V0 m) [hostOps1] sfx_sub sfx_fresh sfx_keeps (G m) (hmainD m)
    (fun c w => w.elim0) (fun c => Entails.of_eq (Phi_first m c t0_0).symm) (fun c => Entails.of_eq (Phi_last m c t0_0))

/-- A buffer that neither the kernel nor a host line after it writes ends as the kernel found it. -/
theorem kept (c : Dev nD) (b : Ref sig .tc) (h1 : (hostOps1 : List (HloOp τ sig (Elt F))).Forall fun op => Proc.devRef .tc b ∉ op.writes) (h2 : b ∉ R0) :
    atEnd m c (Proc.devRef .tc b) = V m c b := by
  unfold atEnd
  rw [StableHlo.after_of_forall_not_mem (b := Proc.devRef .tc b) _ _ (List.forall_iff_forall_mem.mp h1), Pipeline.withR_of_not_mem _ _ _ _ _ h2]

/-- No host line after the region writes an argument. -/
theorem kept_arg (b : Ref sig .tc) (h : b = main_arg0 ∨ b = main_arg1 ∨ b = main_arg2 ∨ b = main_arg3 ∨ b = main_arg4) :
    (hostOps1 : List (HloOp τ sig (Elt F))).Forall fun op => Proc.devRef .tc b ∉ op.writes := by
  simp only [hostOps1, List.Forall, StableHlo.unary_writes, StableHlo.reshape_writes, Finset.mem_singleton]
  rcases h with rfl | rfl | rfl | rfl | rfl <;> repeat' apply And.intro
  all_goals exact StableHlo.devRef_ne_of_ne (by decide)

/-- The program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  refine ⟨?_, ?_, ?_, ?_, ?_⟩
  · rw [h.1 c main_arg0 (by decide), kept m c main_arg0 (kept_arg _ (by simp)) (by decide), V_main_arg0]
  · rw [h.1 c main_arg1 (by decide), kept m c main_arg1 (kept_arg _ (by simp)) (by decide), V_main_arg1]
  · rw [h.1 c main_arg2 (by decide), kept m c main_arg2 (kept_arg _ (by simp)) (by decide), V_main_arg2]
  · rw [h.1 c main_arg3 (by decide), kept m c main_arg3 (kept_arg _ (by simp)) (by decide), V_main_arg3]
  · rw [h.1 c main_arg4 (by decide), kept m c main_arg4 (kept_arg _ (by simp)) (by decide), V_main_arg4]

end Cert.Kernel.Hand

end
-- ==== Proof.Ideal.Base.lean ====
/-
  The buffers and cells of the kernel's one region, by name, and how they are held.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffixV
public import Idealize.ShloMosaic.Lib.MixedBatch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The operands left in HBM: activations, norm weight, positions, weights, weight scales; -/
abbrev xM : Memref sig .tc .hbm S96x5120 .bf16 := Memref.whole main_v0
abbrev nM : Memref sig .tc .hbm S1x5120 .f32 := Memref.whole main_v1
abbrev pM : Memref sig .tc .hbm S1x96 .i32 := Memref.whole main_v2
abbrev wM : Memref sig .tc .hbm S5120x7680 .fp8e4m3 := Memref.whole main_arg3
abbrev sM : Memref sig .tc .hbm S7680 .f32 := Memref.whole main_arg4
/-- the results: queries, keys, values, codes, activation scales; -/
abbrev qM : Memref sig .tc .hbm S20x96x128 .bf16 := Memref.whole main_v3_0
abbrev kM : Memref sig .tc .hbm S20x96x128 .bf16 := Memref.whole main_v3_1
abbrev vM : Memref sig .tc .hbm S20x96x128 .bf16 := Memref.whole main_v3_2
abbrev cM : Memref sig .tc .hbm S96x5120 .fp8e4m3 := Memref.whole main_v3_3
abbrev aM : Memref sig .tc .hbm S1x96 .f32 := Memref.whole main_v3_4
/-- and the scratch buffers in VMEM, in the kernel's order. -/
abbrev xV : Memref sig .tc .vmem S96x5120 .bf16 := Memref.whole cc0_scratch0
abbrev nV : Memref sig .tc .vmem S1x5120 .f32 := Memref.whole cc0_scratch1
abbrev pV : Memref sig .tc .vmem S1x96 .i32 := Memref.whole cc0_scratch2
abbrev sV : Memref sig .tc .vmem S7680 .f32 := Memref.whole cc0_scratch3
abbrev wV : Memref sig .tc .vmem S15x5120x512 .fp8e4m3 := Memref.whole cc0_scratch4
abbrev cV : Memref sig .tc .vmem S96x5120 .fp8e4m3 := Memref.whole cc0_scratch5
abbrev aV : Memref sig .tc .vmem S96x128 .f32 := Memref.whole cc0_scratch6
abbrev rV : Memref sig .tc .vmem S1x96 .f32 := Memref.whole cc0_scratch7
abbrev cosV : Memref sig .tc .vmem S96x128 .f32 := Memref.whole cc0_scratch8
abbrev sinV : Memref sig .tc .vmem S96x128 .f32 := Memref.whole cc0_scratch9
abbrev oV : Memref sig .tc .vmem S60x96x128 .bf16 := Memref.whole cc0_scratch10

/-- The contents of a memref's buffer on core `c`, and the buffer held at contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev semPt (c : Dev nD) (i : DmaSem sig) : sProp 𝕄 := semVal ((c : Thread nD τ), SemLoc.dma i) 0

/-- The kernel's body on its operands. -/
abbrev body : Prog (TpuEff nD τ sig (Elt F) Λ₀ .tc) PUnit := bodyAt0 ⟨0, by decide⟩

end Cert.KernelIdeal.Hand

end
-- ==== Proof.Ideal.Quant.lean ====
/-
  The quantiser of one block of 32 rows, written once: the kernel's three copies of it are this function.
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number whose exponent field is `b`. -/
def qPow (b : IVec S32x128 32) : FVec F S32x128 .f32 := bitcastToFloat .f32 (shli b (broadcast S32x128 23#32))
/-- One step of the search for the exponent field: add `t` if the number with that field is at most `y`. -/
def qStep (y : FVec F S32x128 .f32) (b : IVec S32x128 32) (t : BitVec 32) : IVec S32x128 32 :=
  select (cmpf .oge y (qPow (addi b (broadcast S32x128 t)))) (addi b (broadcast S32x128 t)) b
/-- The exponent field found. -/
def qField (y : FVec F S32x128 .f32) : IVec S32x128 32 :=
  qStep y (qStep y (qStep y (qStep y (qStep y (qStep y (qStep y (qStep y (broadcast S32x128 0#32) 128#32) 64#32) 32#32) 16#32) 8#32) 4#32) 2#32) 1#32
/-- The exponent, zero for a zero or non-finite number. -/
def qExpo (y : FVec F S32x128 .f32) : IVec S32x128 32 :=
  select (ori (cmpi .eq (qField y) (broadcast S32x128 0#32)) (cmpi .eq (qField y) (broadcast S32x128 255#32)))
    (broadcast S32x128 0#32) (subi (qField y) (broadcast S32x128 126#32))
/-- Two to the power `e`, as a product of two powers with in-range fields. -/
def qTwo (e : IVec S32x128 32) : FVec F S32x128 .f32 :=
  mulf (qPow (addi (shrsi e (broadcast S32x128 1#32)) (broadcast S32x128 127#32)))
    (qPow (addi (subi e (shrsi e (broadcast S32x128 1#32))) (broadcast S32x128 127#32)))

section
variable (n : Vec F S1x5120 .f32) (xb : Vec F S32x5120 .bf16)
/-- The exponent of each row's scale. -/
def qE : IVec S32x128 32 :=
  select (cmpf .oeq (k0_pay2 n xb) (broadcast S32x128 (Scalar.ofBits .f32 0x00000000#32))) (broadcast S32x128 0#32)
    (qExpo (k0_pay3 n xb))
/-- Each row's scale, on every lane. -/
def qScale : FVec F S32x128 .f32 := shapeCast S32x128 (qTwo (qE n xb)) shapeCasts_S32x128_S32x128
/-- The block's codes. -/
def qCodes : FVec F S32x5120 .fp8e4m3 :=
  shapeCast S32x5120 (truncf .fp8e4m3
    (minimumf (broadcast S32x5120 (Scalar.ofBits .f32 0x43E00000#32))
      (maximumf (broadcast S32x5120 (Scalar.ofBits .f32 0xC3E00000#32))
        (mulf (k0_pay1 n xb)
          (broadcastTo S32x5120 (extractStridedSlice S32x1 ![0, 0] (qTwo (subi (broadcast S32x128 0#32) (qE n xb))) slices_S32x128_o0_0_S32x1)
            broadcasts_S32x1_S32x5120)))) bitsLt_fp8e4m3_f32) shapeCasts_S32x5120_S32x5120
end

/-- Rows `32 b …` of the activations. -/
abbrev xR (b : Fin 3) : Rect S96x5120 := Rect.unit (s := S96x5120) ![32 * b.val, 0] S32x5120.size (by
  intro a; have := b.isLt; fin_cases a <;> simp [Matrix.cons_val_zero, Matrix.cons_val_one] <;> omega)
/-- Rows `32 b …` of the scales. -/
abbrev aR (b : Fin 3) : Rect S96x128 := Rect.unit (s := S96x128) ![32 * b.val, 0] S32x128.size (by
  intro a; have := b.isLt; fin_cases a <;> simp [Matrix.cons_val_zero, Matrix.cons_val_one] <;> omega)

section
variable (c : Dev nD) (x : HbBuf (F := F) c xM) (n : HbBuf (F := F) c nM) (fx : HbBuf (F := F) c xV) (fn : HbBuf (F := F) c nV)
/-- The norm weight and a block of rows, as the body reads them from the scratch it copied them to. -/
def nL : Vec F S1x5120 .f32 :=
  View.readAt (Elt F) nV.view (Rect.unit ![0, 0] S1x5120.size inb_S1x5120_S1x5120_0_0).toLoadRect
    (View.write (Elt F) (Memref.whole cc0_scratch1).view fn (ReadAs.same.apply (View.read (Elt F) nM.view n)) Finset.univ)
def xL (b : Fin 3) : Vec F S32x5120 .bf16 :=
  View.readAt (Elt F) xV.view (xR b).toLoadRect
    (View.write (Elt F) (Memref.whole cc0_scratch0).view fx (ReadAs.same.apply (View.read (Elt F) xM.view x)) Finset.univ)
/-- The scratch of codes, the scratch of scales after the three blocks. -/
def codesB (fc : HbBuf (F := F) c cV) : HbBuf (F := F) c cV :=
  cV.view.writes (Elt F) fc [⟨xR 2, qCodes (nL c n fn) (xL c x fx 2)⟩, ⟨xR 1, qCodes (nL c n fn) (xL c x fx 1)⟩, ⟨xR 0, qCodes (nL c n fn) (xL c x fx 0)⟩]
def scaleB (fa : HbBuf (F := F) c aV) : HbBuf (F := F) c aV :=
  aV.view.writes (Elt F) fa [⟨aR 2, qScale (nL c n fn) (xL c x fx 2)⟩, ⟨aR 1, qScale (nL c n fn) (xL c x fx 1)⟩, ⟨aR 0, qScale (nL c n fn) (xL c x fx 0)⟩]
end

end Cert.KernelIdeal.Hand

end
-- ==== Proof.Ideal.Vals.lean ====
/-
  The values the kernel moves, written once for all column blocks.
-/
module

public import proofs.«01_k».proof.Proof.Ideal.Quant

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Slot `i` of the weight scratch, and the scratch held on that slot alone. -/
abbrev wR (i : Fin 15) : Rect S15x5120x512 := Rect.unit (s := S15x5120x512) ![i.val, 0, 0] S1x5120x512.size (by
  intro a; have := i.isLt; fin_cases a <;> simp [Matrix.cons_val_zero, Matrix.cons_val_one, Matrix.cons_val_two] <;> omega)
abbrev wPt (c : Dev nD) (i : Fin 15) (f : HbBuf (F := F) c wV) : sProp 𝕄 :=
  wV.view.loc (c : Thread nD τ) ↦[wV.view.setOn (wR i).set]{fullShare} f
/-- Column block `i` of the weights. -/
abbrev wC (i : Fin 15) : Rect S5120x7680 := Rect.unit (s := S5120x7680) ![0, 512 * i.val] S5120x512.size (by
  intro a; have := i.isLt; fin_cases a <;> simp [Matrix.cons_val_zero, Matrix.cons_val_one] <;> omega)
/-- Four planes of the output scratch; -/
abbrev oR (i : Fin 15) : Rect S60x96x128 := Rect.unit (s := S60x96x128) ![4 * i.val, 0, 0] S4x96x128.size (by
  intro a; have := i.isLt; fin_cases a <;> simp [Matrix.cons_val_zero, Matrix.cons_val_one, Matrix.cons_val_two] <;> omega)
/-- one plane of it. -/
abbrev oP (i : Fin 15) (j : Fin 4) : Rect S60x96x128 := Rect.unit (s := S60x96x128) ![4 * i.val + j.val, 0, 0] S1x96x128.size (by
  intro a; have := i.isLt; have := j.isLt; fin_cases a <;> simp [Matrix.cons_val_zero, Matrix.cons_val_one, Matrix.cons_val_two] <;> omega)
abbrev oPt (c : Dev nD) (i : Fin 15) (f : HbBuf (F := F) c oV) : sProp 𝕄 :=
  oV.view.loc (c : Thread nD τ) ↦[oV.view.setOn (oR i).set]{fullShare} f
/-- Four planes of a result. -/
abbrev rR (i : Fin 5) : Rect S20x96x128 := Rect.unit (s := S20x96x128) ![4 * i.val, 0, 0] S4x96x128.size (by
  intro a; have := i.isLt; fin_cases a <;> simp [Matrix.cons_val_zero, Matrix.cons_val_one, Matrix.cons_val_two] <;> omega)
abbrev rPt (c : Dev nD) (M : Memref sig .tc .hbm S20x96x128 .bf16) (i : Fin 5) (f : HbBuf (F := F) c M) : sProp 𝕄 :=
  M.view.loc (c : Thread nD τ) ↦[M.view.setOn (rR i).set]{fullShare} f
/-- The scales of one head's 128 columns. -/
abbrev sR (i : Fin 15) (j : Fin 4) : Rect S7680 := Rect.unit (s := S7680) ![512 * i.val + 128 * j.val] S128.size (by
  intro a; have := i.isLt; have := j.isLt; fin_cases a; simp [Matrix.cons_val_zero]; omega)

/-- Two contents are one. -/
structure Same {α : Sort _} (a b : α) : Prop where
  eq : a = b

/-- A buffer's contents may be named; the name equals what it names. -/
theorem gen (c : Dev nD) {sp : Space} {S : Shape} {e : EltTy} (M : Memref sig .tc sp S e) (f : HbBuf (F := F) c M) :
    (hbPt c M f : sProp 𝕄) ⊢ iprop(∃ g, ⌜Same g f⌝ ∗ hbPt c M g) := by
  iintro H; iexists f; isplitr; swap; · iexact H
  ipureintro; exact ⟨rfl⟩

/-- A whole buffer, split into two half shares. -/
theorem halves (c : Dev nD) {sp : Space} {S : Shape} {e : EltTy} (M : Memref sig .tc sp S e) (f : HbBuf (F := F) c M) :
    (hbPt c M f : sProp 𝕄) ⊢ iprop((M.view.loc (c : Thread nD τ) ↦{fullShare.left} f) ∗ (M.view.loc (c : Thread nD τ) ↦{fullShare.right} f)) :=
  (pointsTo_share (PosShare.mem_left_op_right fullShare)).1

/-! ## The values of a column block -/

/-- Column block `i` of the weights, as the scratch's slot `i` gives it back. -/
def wSlot (c : Dev nD) (w : HbBuf (F := F) c wM) (fw : HbBuf (F := F) c wV) (i : Fin 15) : Vec F S1x5120x512 .fp8e4m3 :=
  View.readAt (Elt F) wV.view (wR i).toLoadRect
    (View.write (Elt F) ((wV.slice (wR i) (fun _ => rfl)).squeeze S5120x512 squeezes_S1x5120x512_S5120x512).view fw
      (ReadAs.same.apply (View.read (Elt F) (wM.slice (wC i) (fun _ => rfl)).view w)) Finset.univ)

/-- A head's lanes lie within a chunk. -/
theorem sl4 (j : Fin 4) : S96x512.Slices ![0, 128 * j.val] S96x128 := by
  fin_cases j
  exacts [slices_S96x512_o0_0_S96x128, slices_S96x512_o0_128_S96x128, slices_S96x512_o0_256_S96x128, slices_S96x512_o0_384_S96x128]

/-- Head `j` of a column block's accumulator, scaled by the rows' and the columns' scales. -/
def headT (acc : FVec F S96x512 .f32) (j : Fin 4) (am : Vec F S96x128 .f32) (sc : Vec F S128 .f32) : FVec F S96x128 .f32 :=
  mulf (mulf (extractStridedSlice S96x128 ![0, 128 * j.val] acc (sl4 j)) am)
    (broadcastTo S96x128 (shapeCast S1x128 sc shapeCasts_S128_S1x128) broadcasts_S1x128_S96x128)
/-- The rotary embedding of a head. -/
def headR (t : FVec F S96x128 .f32) (co si : Vec F S96x128 .f32) : FVec F S1x96x128 .bf16 :=
  shapeCast S1x96x128 (truncf .bf16 (addf (mulf t co) (mulf (dynamicRotate 1 64#32 none t rotates_S96x128_d1) si)) bitsLt_bf16_f32)
    shapeCasts_S96x128_S1x96x128
/-- A head as it is. -/
def headP (t : FVec F S96x128 .f32) : FVec F S1x96x128 .bf16 :=
  shapeCast S1x96x128 (truncf .bf16 t bitsLt_bf16_f32) shapeCasts_S96x128_S1x96x128

section
variable (c : Dev nD) (w : HbBuf (F := F) c wM) (fw : HbBuf (F := F) c wV) (cb : HbBuf (F := F) c cV) (ab : HbBuf (F := F) c aV)
  (sb : HbBuf (F := F) c sV) (pb : HbBuf (F := F) c pV)

/-- The positions as the body reads them; the cosines, the signed sines. -/
def posL : Vec F S1x96 .i32 := View.readAt (Elt F) pV.view (Rect.unit ![0, 0] S1x96.size inb_S1x96_S1x96_0_0).toLoadRect pb
/-- The table of cosines that the body stores. -/
def cosT : Vec F S96x128 .f32 :=
  cosV.view.readCov [⟨Rect.unit ![0, 0] S96x128.size inb_S96x128_S96x128_0_0, k0_pay50 (posL c pb)⟩]
    (Rect.unit ![0, 0] S96x128.size inb_S96x128_S96x128_0_0).toLoadRect
/-- The table of signed sines that the body stores. -/
def sinT : Vec F S96x128 .f32 :=
  sinV.view.readCov [⟨Rect.unit ![0, 0] S96x128.size inb_S96x128_S96x128_0_0,
      k0_pay53 (k0_pay51 (posL c pb)) k0_pay52 (Scalar.ofBits .f32 0x00000000#32)⟩]
    (Rect.unit ![0, 0] S96x128.size inb_S96x128_S96x128_0_0).toLoadRect
/-- A column block's accumulator. -/
def accV (i : Fin 15) : FVec F S96x512 .f32 :=
  k0_pay54 (View.readAt (Elt F) cV.view (Rect.unit ![0, 0] S96x5120.size inb_S96x5120_S96x5120_0_0).toLoadRect cb) (wSlot c w fw i)
/-- Head `j` of column block `i`, scaled. -/
def headV (i : Fin 15) (j : Fin 4) : FVec F S96x128 .f32 :=
  headT (accV c w fw cb i) j (View.readAt (Elt F) aV.view (Rect.unit ![0, 0] S96x128.size inb_S96x128_S96x128_0_0).toLoadRect ab)
    (View.readAt (Elt F) sV.view (sR i j).toLoadRect sb)
/-- What the body stores for it: turned by its position for queries and keys, as it is for values. -/
def storedR (i : Fin 15) (j : Fin 4) : FVec F S1x96x128 .bf16 := headR (headV c w fw cb ab sb i j) (cosT c pb) (sinT c pb)
/-- A chunk's head, stored as it is. -/
def storedP (i : Fin 15) (j : Fin 4) : FVec F S1x96x128 .bf16 := headP (headV c w fw cb ab sb i j)
end

/-- The output scratch with the four planes of block `i` stored. -/
def oBuf (c : Dev nD) (fo : HbBuf (F := F) c oV) (i : Fin 15) (v : Fin 4 → FVec F S1x96x128 .bf16) : HbBuf (F := F) c oV :=
  oV.view.writes (Elt F) fo [⟨oP i 3, v 3⟩, ⟨oP i 2, v 2⟩, ⟨oP i 1, v 1⟩, ⟨oP i 0, v 0⟩]
/-- A result with four planes copied out of the scratch. -/
def rBuf (c : Dev nD) (M : Memref sig .tc .hbm S20x96x128 .bf16) (j : Fin 5) (f : HbBuf (F := F) c M) (i : Fin 15) (g : HbBuf (F := F) c oV) :
    HbBuf (F := F) c M :=
  M.view.writes (Elt F) f [⟨rR j, ReadAs.same.apply (View.read (Elt F) (oV.slice (oR i) (fun _ => rfl)).view g)⟩]

/-- A copy of four planes out: the result's planes at the scratch's, the scratch's planes back. -/
abbrev dlvO (c : Dev nD) (M : Memref sig .tc .hbm S20x96x128 .bf16) (j : Fin 5) (f : HbBuf (F := F) c M) (i : Fin 15) (g : HbBuf (F := F) c oV) : sProp 𝕄 :=
  iprop((M.view.loc (c : Thread nD τ) ↦[M.view.setOn (rR j).set]{fullShare} rBuf c M j f i g)
    ∗ (oV.view.loc (c : Thread nD τ) ↦[(oV.slice (oR i) (fun _ => rfl)).view.set]{fullShare} g))
/-- The copy of the codes out. -/
abbrev dlvC (c : Dev nD) (fcM : HbBuf (F := F) c cM) (cb : HbBuf (F := F) c cV) : sProp 𝕄 :=
  iprop((cM.view.loc (c : Thread nD τ) ↦{fullShare} View.write (Elt F) cM.view fcM (ReadAs.same.apply (cV.view.read (Elt F) cb)) Finset.univ)
    ∗ (cV.view.loc (c : Thread nD τ) ↦[cV.view.set]{fullShare.right} cb))
/-- What the output semaphore's sixteen copies count. -/
abbrev amt : Fin 16 → ℕ := ![15360, 3072, 3072, 3072, 3072, 3072, 3072, 3072, 3072, 3072, 3072, 3072, 3072, 3072, 3072, 3072]

section
variable (c : Dev nD) (w : HbBuf (F := F) c wM) (fw : HbBuf (F := F) c wV) (cb : HbBuf (F := F) c cV) (ab : HbBuf (F := F) c aV)
  (sb : HbBuf (F := F) c sV) (pb : HbBuf (F := F) c pV) (fcM : HbBuf (F := F) c cM) (fo : HbBuf (F := F) c oV)
  (fq : HbBuf (F := F) c qM) (fk : HbBuf (F := F) c kM) (fv : HbBuf (F := F) c vM)
/-- What each of the sixteen copies on the output semaphore delivers. -/
abbrev deliv : Fin 16 → sProp 𝕄
  | ⟨0, _⟩ => dlvC c fcM cb
  | ⟨1, _⟩ => dlvO c qM 0 fq 0 (oBuf c fo 0 (storedR c w fw cb ab sb pb 0))
  | ⟨2, _⟩ => dlvO c qM 1 fq 1 (oBuf c fo 1 (storedR c w fw cb ab sb pb 1))
  | ⟨3, _⟩ => dlvO c qM 2 fq 2 (oBuf c fo 2 (storedR c w fw cb ab sb pb 2))
  | ⟨4, _⟩ => dlvO c qM 3 fq 3 (oBuf c fo 3 (storedR c w fw cb ab sb pb 3))
  | ⟨5, _⟩ => dlvO c qM 4 fq 4 (oBuf c fo 4 (storedR c w fw cb ab sb pb 4))
  | ⟨6, _⟩ => dlvO c kM 0 fk 5 (oBuf c fo 5 (storedR c w fw cb ab sb pb 5))
  | ⟨7, _⟩ => dlvO c kM 1 fk 6 (oBuf c fo 6 (storedR c w fw cb ab sb pb 6))
  | ⟨8, _⟩ => dlvO c kM 2 fk 7 (oBuf c fo 7 (storedR c w fw cb ab sb pb 7))
  | ⟨9, _⟩ => dlvO c kM 3 fk 8 (oBuf c fo 8 (storedR c w fw cb ab sb pb 8))
  | ⟨10, _⟩ => dlvO c kM 4 fk 9 (oBuf c fo 9 (storedR c w fw cb ab sb pb 9))
  | ⟨11, _⟩ => dlvO c vM 0 fv 10 (oBuf c fo 10 (storedP c w fw cb ab sb 10))
  | ⟨12, _⟩ => dlvO c vM 1 fv 11 (oBuf c fo 11 (storedP c w fw cb ab sb 11))
  | ⟨13, _⟩ => dlvO c vM 2 fv 12 (oBuf c fo 12 (storedP c w fw cb ab sb 12))
  | ⟨14, _⟩ => dlvO c vM 3 fv 13 (oBuf c fo 13 (storedP c w fw cb ab sb 13))
  | ⟨15, _⟩ => dlvO c vM 4 fv 14 (oBuf c fo 14 (storedP c w fw cb ab sb 14))
  | ⟨_ + 16, h⟩ => absurd h (by omega)

instance deliv_storable (t : Fin 16) : Storable (upEmb : UEmb _ 𝕄) (deliv c w fw cb ab sb pb fcM fo fq fk fv t) := by
  fin_cases t <;> simp only [deliv] <;> infer_instance
end

end Cert.KernelIdeal.Hand

end
-- ==== Proof.Ideal.Pure.lean ====
/-
  The kernel's results as functions of its operands alone, and the buffers the body leaves read as these functions.
-/
module

public import proofs.«01_k».proof.Proof.Ideal.Vals
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Rows `32 b …` of the activations as a block. -/
def xBlk (x : Vec F S96x5120 .bf16) (b : Fin 3) : Vec F S32x5120 .bf16 := fun j => x ((xR b).emb j)
/-- The codes, the scales of all rows. -/
def codesV (x : Vec F S96x5120 .bf16) (n : Vec F S1x5120 .f32) : Vec F S96x5120 .fp8e4m3 := fun i =>
  qCodes n (xBlk x ⟨(i 0).val / 32, by have := (i 0).isLt; simp only [Matrix.cons_val_zero] at this; omega⟩)
    (ix2 ⟨(i 0).val % 32, Nat.mod_lt _ (by decide)⟩ (i 1))
def scaleV (x : Vec F S96x5120 .bf16) (n : Vec F S1x5120 .f32) : Vec F S96x128 .f32 := fun i =>
  qScale n (xBlk x ⟨(i 0).val / 32, by have := (i 0).isLt; simp only [Matrix.cons_val_zero] at this; omega⟩)
    (ix2 ⟨(i 0).val % 32, Nat.mod_lt _ (by decide)⟩ (i 1))
/-- Column block `i` of the weights. -/
def wBlk (w : Vec F S5120x7680 .fp8e4m3) (i : Fin 15) : Vec F S5120x512 .fp8e4m3 := fun j => w ((wC i).emb j)

section
variable (x : Vec F S96x5120 .bf16) (n : Vec F S1x5120 .f32) (p : Vec F S1x96 .i32) (w : Vec F S5120x7680 .fp8e4m3) (s : Vec F S7680 .f32)
/-- Head `j` of column block `i`, scaled; turned by its position; as it is. -/
def headS (i : Fin 15) (j : Fin 4) : FVec F S96x128 .f32 :=
  headT (k0_pay54 (codesV x n) (fun k => wBlk w i (Shape.reshapeEquiv shapeCasts_S1x5120x512_S5120x512.symm k))) j (scaleV x n) (fun l => s ((sR i j).emb l))
def planeR (i : Fin 15) (j : Fin 4) : FVec F S1x96x128 .bf16 :=
  headR (headS x n w s i j) (k0_pay50 p) (k0_pay53 (k0_pay51 p) k0_pay52 (Scalar.ofBits .f32 0x00000000#32))
def planeP (i : Fin 15) (j : Fin 4) : FVec F S1x96x128 .bf16 := headP (headS x n w s i j)
/-- Twenty heads from column block `b` on. -/
def resG (pl : Fin 15 → Fin 4 → FVec F S1x96x128 .bf16) (b : ℕ) (hb : b ≤ 10) : Vec F S20x96x128 .bf16 := fun y =>
  pl ⟨b + (y 0).val / 4, by have := (y 0).isLt; simp only [Matrix.cons_val_zero] at this; omega⟩ ⟨(y 0).val % 4, Nat.mod_lt _ (by decide)⟩
    (ix3 0 (y 1) (y 2))
/-- The five results. -/
def qG : Vec F S20x96x128 .bf16 := resG (planeR x n p w s) 0 (by decide)
def kG : Vec F S20x96x128 .bf16 := resG (planeR x n p w s) 5 (by decide)
def vG : Vec F S20x96x128 .bf16 := resG (planeP x n w s) 10 (by decide)
def aG : Vec F S1x96 .f32 := k0_pay48 (k0_pay47 (fun j => scaleV x n ((Rect.unit (s := S96x128) ![0, 0] S96x1.size inb_S96x128_S96x1_0_0).emb j)))
end

/-! ## The buffers read -/

/-- A whole buffer after writes that agree with `G`, read where one of them falls. -/
theorem writes_at {κ : Kind} (b : Ref sig κ) (G : b.ty.shape.Idx → Elt F b.ty.elt) (f : b.ty.Contents (Elt F))
    (L : List (View.Piece (Elt F) b.ty.shape b.ty.elt)) (hL : ∀ q ∈ L, ∀ x : q.1.shape.Idx, q.2 x = G (q.1.emb x))
    (y : b.ty.shape.Idx) (hy : ∃ q ∈ L, y ∈ q.1.set) : (Memref.whole b).view.writes (Elt F) f L y = G y := by
  have h := View.read_writes_apply_eq_canon (Memref.whole b).view f y L hy
  rw [View.canon_apply_of_pieces G L hL y hy] at h
  exact h

section
variable (c : Dev nD) (x : HbBuf (F := F) c xM) (n : HbBuf (F := F) c nM) (p : HbBuf (F := F) c pM) (w : HbBuf (F := F) c wM) (s : HbBuf (F := F) c sM)

/-- A zero offset. -/
theorem zero2 {d : Fin 2 → ℕ} : (![0, 0] : Fin 2 → ℕ) = fun _ => 0 := by funext a; fin_cases a <;> rfl

/-- The norm weight that the body reads is the operand. -/
theorem nL_eq (fn : HbBuf (F := F) c nV) : nL c n fn = n := by
  unfold nL
  rw [show View.write (Elt F) (Memref.whole cc0_scratch1).view fn (ReadAs.same.apply (View.read (Elt F) nM.view n)) Finset.univ = n
    from View.write_whole_univ ..]
  exact Memref.readAt_unit_zero (Elt F) cc0_scratch1 (zero2 (d := ![0,0])) _ n

/-- The rows that the body reads are those of the operand. -/
theorem xL_eq (fx : HbBuf (F := F) c xV) (b : Fin 3) : xL c x fx b = xBlk x b := by
  unfold xL
  rw [show View.write (Elt F) (Memref.whole cc0_scratch0).view fx (ReadAs.same.apply (View.read (Elt F) xM.view x)) Finset.univ = x
    from View.write_whole_univ ..]
  rfl

/-- A block's codes are rows of the table of codes. -/
theorem codes_piece (b : Fin 3) (j : S32x5120.Idx) : qCodes n (xBlk x b) j = codesV x n ((xR b).emb j) := by
  have h0 := idx2_lt0 j
  have e0 : ((xR b).emb j 0).val = 32 * b.val + 1 * (j 0).val := rfl
  have e1 : ((xR b).emb j 1).val = 0 + 1 * (j 1).val := rfl
  unfold codesV
  congr 1
  · congr 1; apply Fin.ext; simp only [e0]; omega
  · refine (eq_ix2 j).trans ?_
    congr 1 <;> apply Fin.ext
    · simp only [e0]; omega
    · simp only [e1]; omega

/-- A block's scales are rows of the table of scales. -/
theorem scale_piece (b : Fin 3) (j : S32x128.Idx) : qScale n (xBlk x b) j = scaleV x n ((aR b).emb j) := by
  have h0 := idx2_lt0 j
  have e0 : ((aR b).emb j 0).val = 32 * b.val + 1 * (j 0).val := rfl
  have e1 : ((aR b).emb j 1).val = 0 + 1 * (j 1).val := rfl
  unfold scaleV
  congr 1
  · congr 1; apply Fin.ext; simp only [e0]; omega
  · refine (eq_ix2 j).trans ?_
    congr 1 <;> apply Fin.ext
    · simp only [e0]; omega
    · simp only [e1]; omega

/-- The three blocks fill the buffer of codes. -/
theorem codesB_eq (fx : HbBuf (F := F) c xV) (fn : HbBuf (F := F) c nV) (fc : HbBuf (F := F) c cV) : codesB c x n fx fn fc = codesV x n := by
  funext y
  unfold codesB
  rw [nL_eq, xL_eq, xL_eq, xL_eq]
  refine writes_at cc0_scratch5 (codesV x n) fc _ ?_ y (View.cover_of_tiledL (s := S96x5120) _ S32x5120.size (by sl_kernel_rfl) y)
  intro q hq
  simp only [List.mem_cons, List.not_mem_nil, or_false] at hq
  rcases hq with rfl | rfl | rfl
  · exact codes_piece c x n 2
  · exact codes_piece c x n 1
  · exact codes_piece c x n 0

/-- The three blocks fill the buffer of scales. -/
theorem scaleB_eq (fx : HbBuf (F := F) c xV) (fn : HbBuf (F := F) c nV) (fa : HbBuf (F := F) c aV) : scaleB c x n fx fn fa = scaleV x n := by
  funext y
  unfold scaleB
  rw [nL_eq, xL_eq, xL_eq, xL_eq]
  refine writes_at cc0_scratch6 (scaleV x n) fa _ ?_ y (View.cover_of_tiledL (s := S96x128) _ S32x128.size (by sl_kernel_rfl) y)
  intro q hq
  simp only [List.mem_cons, List.not_mem_nil, or_false] at hq
  rcases hq with rfl | rfl | rfl
  · exact scale_piece c x n 2
  · exact scale_piece c x n 1
  · exact scale_piece c x n 0

/-- A weight chunk that the body reads is a chunk of the operand. -/
theorem wSlot_eq (fw : HbBuf (F := F) c wV) (i : Fin 15) :
    wSlot c w fw i = fun k => wBlk w i (Shape.reshapeEquiv shapeCasts_S1x5120x512_S5120x512.symm k) := by
  unfold wSlot
  refine (congrArg (View.readAt (Elt F) wV.view (wR i).toLoadRect) (View.write_reshape_univ
    (v := (wV.slice (wR i) (fun _ => rfl)).view) squeezes_S1x5120x512_S5120x512.numel_eq fw _)).trans ?_
  rw [View.readAt_rect]
  refine (View.read_write_univ ..).trans ?_
  funext k
  exact congrArg (wBlk w i) (DFunLike.congr_fun (Shape.reshapeEquiv_symm _) k)

/-- A chunk's product. -/
theorem accV_eq (fw : HbBuf (F := F) c wV) (i : Fin 15) (cb : HbBuf (F := F) c cV) :
    accV c w fw cb i = k0_pay54 cb (fun k => wBlk w i (Shape.reshapeEquiv shapeCasts_S1x5120x512_S5120x512.symm k)) := by
  unfold accV
  rw [wSlot_eq]
  rw [show View.readAt (Elt F) cV.view (Rect.unit ![0, 0] S96x5120.size inb_S96x5120_S96x5120_0_0).toLoadRect cb = cb
    from Memref.readAt_unit_zero (Elt F) cc0_scratch5 (zero2 (d := ![0,0])) _ cb]

/-- A chunk's head, scaled. -/
theorem headV_eq (fw : HbBuf (F := F) c wV) (i : Fin 15) (j : Fin 4) :
    headV c w fw (codesV x n) (scaleV x n) s i j = headS x n w s i j := by
  unfold headV headS
  rw [accV_eq]
  rw [show View.readAt (Elt F) aV.view (Rect.unit ![0, 0] S96x128.size inb_S96x128_S96x128_0_0).toLoadRect (scaleV x n) = scaleV x n
    from Memref.readAt_unit_zero (Elt F) cc0_scratch6 (zero2 (d := ![0,0])) _ _]
  rfl

/-- The table of cosines. -/
theorem cosT_eq : cosT c p = k0_pay50 p := by
  unfold cosT posL
  rw [View.readCov_unit_zero _ (zero2 (d := ![0,0]))]
  congr 1
  exact Memref.readAt_unit_zero (Elt F) cc0_scratch2 (zero2 (d := ![0,0])) _ p

/-- The table of signed sines. -/
theorem sinT_eq : sinT c p = k0_pay53 (k0_pay51 p) k0_pay52 (Scalar.ofBits .f32 0x00000000#32) := by
  unfold sinT posL
  rw [View.readCov_unit_zero _ (zero2 (d := ![0,0]))]
  congr 2
  exact Memref.readAt_unit_zero (Elt F) cc0_scratch2 (zero2 (d := ![0,0])) _ p

/-- A chunk's rotated heads. -/
theorem storedR_eq (fw : HbBuf (F := F) c wV) (i : Fin 15) :
    storedR c w fw (codesV x n) (scaleV x n) s p i = planeR x n p w s i := by
  funext j; unfold storedR planeR; rw [headV_eq, cosT_eq, sinT_eq]
/-- A chunk's heads stored as they are. -/
theorem storedP_eq (fw : HbBuf (F := F) c wV) (i : Fin 15) :
    storedP c w fw (codesV x n) (scaleV x n) s i = planeP x n w s i := by
  funext j; unfold storedP planeP; rw [headV_eq]

/-- The planes stored for block `i`, read back. -/
theorem oBuf_at (fo : HbBuf (F := F) c oV) (i : Fin 15) (v : Fin 4 → FVec F S1x96x128 .bf16) (y : S60x96x128.Idx) (hy : (y 0).val / 4 = i.val) :
    oBuf c fo i v y = v ⟨(y 0).val % 4, Nat.mod_lt _ (by decide)⟩ (ix3 0 (y 1) (y 2)) := by
  unfold oBuf
  have key : ∀ (j : Fin 4) (z : S1x96x128.Idx), v j z = (fun y : S60x96x128.Idx => v ⟨(y 0).val % 4, Nat.mod_lt _ (by decide)⟩ (ix3 0 (y 1) (y 2))) ((oP i j).emb z) := by
    intro j z
    have h0 : (z 0).val < 1 := (z 0).isLt
    have e0 : ((oP i j).emb z 0).val = 4 * i.val + j.val + 1 * (z 0).val := rfl
    have e1 : ((oP i j).emb z 1).val = 0 + 1 * (z 1).val := rfl
    have e2 : ((oP i j).emb z 2).val = 0 + 1 * (z 2).val := rfl
    have hj := j.isLt
    dsimp only
    congr 1
    · congr 1; apply Fin.ext; simp only [e0]; omega
    · refine (eq_ix3 z).trans ?_
      congr 1 <;> apply Fin.ext
      · simp; omega
      · simp only [e1]; omega
      · simp only [e2]; omega
  generalize hG : (fun y : S60x96x128.Idx => v ⟨(y 0).val % 4, Nat.mod_lt _ (by decide)⟩ (ix3 0 (y 1) (y 2))) = G at key
  refine (writes_at cc0_scratch10 G fo _ ?_ y ?_).trans (congrFun hG.symm y)
  · intro q hq
    simp only [List.mem_cons, List.not_mem_nil, or_false] at hq
    rcases hq with rfl | rfl | rfl | rfl
    · exact key 3
    · exact key 2
    · exact key 1
    · exact key 0
  · have hm : ∀ j : Fin 4, (y 0).val % 4 = j.val → y ∈ (oP i j).set := by
      intro j hj
      have h1 : (y 1).val < 96 := (y 1).isLt
      have h2 : (y 2).val < 128 := (y 2).isLt
      refine Rect.mem_set_unit.2 fun a => ?_
      fin_cases a
      · show 4 * i.val + j.val ≤ (y 0).val ∧ (y 0).val < 4 * i.val + j.val + 1; omega
      · show 0 ≤ (y 1).val ∧ (y 1).val < 0 + 96; omega
      · show 0 ≤ (y 2).val ∧ (y 2).val < 0 + 128; omega
    have h4 : (y 0).val % 4 < 4 := Nat.mod_lt _ (by decide)
    rcases (show (y 0).val % 4 = 0 ∨ (y 0).val % 4 = 1 ∨ (y 0).val % 4 = 2 ∨ (y 0).val % 4 = 3 by omega) with h | h | h | h
    · exact ⟨⟨oP i 0, v 0⟩, List.mem_cons_of_mem _ (List.mem_cons_of_mem _ (List.mem_cons_of_mem _ List.mem_cons_self)), hm 0 h⟩
    · exact ⟨⟨oP i 1, v 1⟩, List.mem_cons_of_mem _ (List.mem_cons_of_mem _ List.mem_cons_self), hm 1 h⟩
    · exact ⟨⟨oP i 2, v 2⟩, List.mem_cons_of_mem _ List.mem_cons_self, hm 2 h⟩
    · exact ⟨⟨oP i 3, v 3⟩, List.mem_cons_self, hm 3 h⟩

/-- A copy's payload read at an index, the result's plane it lands on. -/
theorem rBuf_emb (M : Memref sig .tc .hbm S20x96x128 .bf16) (j : Fin 5) (f : HbBuf (F := F) c M) (i : Fin 15) (g : HbBuf (F := F) c oV)
    (z : (rR j).shape.Idx) : View.read (Elt F) M.view (rBuf c M j f i g) ((rR j).emb z) = g ((oR i).emb z) := by
  unfold rBuf
  exact View.read_writes_cons_emb ..

/-- A result's four planes copied from block `i = b + j` of the scratch. -/
theorem rBuf_at (M : Memref sig .tc .hbm S20x96x128 .bf16) (j : Fin 5) (f : HbBuf (F := F) c M) (i : Fin 15) (fo : HbBuf (F := F) c oV)
    (pl : Fin 15 → Fin 4 → FVec F S1x96x128 .bf16) (b : ℕ) (hb : b ≤ 10) (hi : i.val = b + j.val) (y : S20x96x128.Idx) (hy : y ∈ (rR j).set) :
    View.read (Elt F) M.view (rBuf c M j f i (oBuf c fo i (pl i))) y = resG pl b hb y := by
  obtain ⟨z, rfl⟩ := (rR j).exists_idx_of_mem hy
  have h0 : (z 0).val < 4 := (z 0).isLt
  rw [show (rR j).toLoadRect.idx z = (rR j).emb z from rfl, rBuf_emb]
  refine (oBuf_at c fo i (pl i) ((oR i).emb z) ?_).trans ?_
  · show (4 * i.val + 1 * (z 0).val) / 4 = i.val; omega
  · unfold resG
    have hi' : i = ⟨b + ((rR j).emb z 0).val / 4, by
        show b + (4 * j.val + 1 * (z 0).val) / 4 < 15; have := j.isLt; omega⟩ := by
      apply Fin.ext; show i.val = b + (4 * j.val + 1 * (z 0).val) / 4; omega
    have e0 : ((oR i).emb z 0).val = 4 * i.val + 1 * (z 0).val := rfl
    have f0 : ((rR j).emb z 0).val = 4 * j.val + 1 * (z 0).val := rfl
    rw [show (⟨((oR i).emb z 0).val % 4, Nat.mod_lt _ (by decide)⟩ : Fin 4) = ⟨((rR j).emb z 0).val % 4, Nat.mod_lt _ (by decide)⟩
      from Fin.ext (by simp only [e0, f0]; omega)]
    exact congrArg (fun i' => pl i' _ _) hi'
end

end Cert.KernelIdeal.Hand

end
-- ==== Proof.Ideal.Join.lean ====
/-
  Scratch buffers and results cut into the pieces the body moves, and put together again.
-/
module

public import proofs.«01_k».proof.Proof.Ideal.Pure
public import Idealize.ShloMosaic.Lib.Ring.FamCut

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Separating conjunctions over fifteen and over five, written out. -/
theorem sep15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [BI.bigSep_eq_bigSepL_of_eq [0, 1, 2, 3, 4, 5, 6, 7, 8, 9, 10, 11, 12, 13, 14] (by decide) (by decide)]; rfl
/-- Five pieces, written out. -/
theorem sep5 (Φ : Fin 5 → sProp 𝕄) : bigSep Finset.univ Φ = iprop(Φ 0 ∗ Φ 1 ∗ Φ 2 ∗ Φ 3 ∗ Φ 4) := by
  rw [BI.bigSep_eq_bigSepL_of_eq [0, 1, 2, 3, 4] (by decide) (by decide)]; rfl

/-- Different weight chunks are disjoint. -/
theorem wR_disj (i i' : Fin 15) (h : i ≠ i') : Disjoint (wR i).set (wR i').set :=
  Rect.unit_disjoint 0 (by
    show i.val + 1 ≤ i'.val ∨ i'.val + 1 ≤ i.val
    have := Fin.val_ne_of_ne h; omega)
/-- Different chunks' heads are disjoint. -/
theorem oR_disj (i i' : Fin 15) (h : i ≠ i') : Disjoint (oR i).set (oR i').set :=
  Rect.unit_disjoint 0 (by
    show 4 * i.val + 4 ≤ 4 * i'.val ∨ 4 * i'.val + 4 ≤ 4 * i.val
    have := Fin.val_ne_of_ne h; omega)
/-- Different pieces of a result are disjoint. -/
theorem rR_disj (i i' : Fin 5) (h : i ≠ i') : Disjoint (rR i).set (rR i').set :=
  Rect.unit_disjoint 0 (by
    show 4 * i.val + 4 ≤ 4 * i'.val ∨ 4 * i'.val + 4 ≤ 4 * i.val
    have := Fin.val_ne_of_ne h; omega)

/-- The weight chunks cover their buffer. -/
theorem wR_cover : (Finset.univ : Finset (Fin 15)).biUnion (fun i => (wR i).set) = Finset.univ := by
  refine Finset.eq_univ_of_forall fun y => Finset.mem_biUnion.2 ⟨⟨(y 0).val, (y 0).isLt⟩, Finset.mem_univ _, Rect.mem_set_unit.2 fun a => ?_⟩
  have h1 : (y 1).val < 5120 := (y 1).isLt
  have h2 : (y 2).val < 512 := (y 2).isLt
  fin_cases a
  · show (y 0).val ≤ (y 0).val ∧ (y 0).val < (y 0).val + 1; omega
  · show 0 ≤ (y 1).val ∧ (y 1).val < 0 + 5120; omega
  · show 0 ≤ (y 2).val ∧ (y 2).val < 0 + 512; omega
/-- The chunks' heads cover their buffer. -/
theorem oR_cover : (Finset.univ : Finset (Fin 15)).biUnion (fun i => (oR i).set) = Finset.univ := by
  refine Finset.eq_univ_of_forall fun y => ?_
  have h0 : (y 0).val < 60 := (y 0).isLt
  have h1 : (y 1).val < 96 := (y 1).isLt
  have h2 : (y 2).val < 128 := (y 2).isLt
  refine Finset.mem_biUnion.2 ⟨⟨(y 0).val / 4, by omega⟩, Finset.mem_univ _, Rect.mem_set_unit.2 fun a => ?_⟩
  fin_cases a
  · show 4 * ((y 0).val / 4) ≤ (y 0).val ∧ (y 0).val < 4 * ((y 0).val / 4) + 4; omega
  · show 0 ≤ (y 1).val ∧ (y 1).val < 0 + 96; omega
  · show 0 ≤ (y 2).val ∧ (y 2).val < 0 + 128; omega
/-- The pieces of a result cover it. -/
theorem rR_cover : (Finset.univ : Finset (Fin 5)).biUnion (fun i => (rR i).set) = Finset.univ := by
  refine Finset.eq_univ_of_forall fun y => ?_
  have h0 : (y 0).val < 20 := (y 0).isLt
  have h1 : (y 1).val < 96 := (y 1).isLt
  have h2 : (y 2).val < 128 := (y 2).isLt
  refine Finset.mem_biUnion.2 ⟨⟨(y 0).val / 4, by omega⟩, Finset.mem_univ _, Rect.mem_set_unit.2 fun a => ?_⟩
  fin_cases a
  · show 4 * ((y 0).val / 4) ≤ (y 0).val ∧ (y 0).val < 4 * ((y 0).val / 4) + 4; omega
  · show 0 ≤ (y 1).val ∧ (y 1).val < 0 + 96; omega
  · show 0 ≤ (y 2).val ∧ (y 2).val < 0 + 128; omega

section
variable (c : Dev nD) {sp : Space} {S : Shape} {e : EltTy} (M : Memref sig .tc sp S e) (hM : M.IsWhole) {k : ℕ} (R : Fin k → Finset S.Idx)
  (hd : ∀ i i', i ≠ i' → Disjoint (R i) (R i')) (hc : (Finset.univ : Finset (Fin k)).biUnion R = Finset.univ)

include hM hc in
/-- The pieces cover the memory of the buffer. -/
theorem cover_setOn : (Finset.univ : Finset (Fin k)).biUnion (fun i => M.view.setOn (R i)) = Finset.univ := by
  refine Finset.eq_univ_of_forall fun z => ?_
  have hz : z ∈ M.view.set := by rw [hM.set_eq_univ]; exact Finset.mem_univ z
  obtain ⟨y, -, rfl⟩ := Finset.mem_map.1 hz
  have hy : y ∈ (Finset.univ : Finset (Fin k)).biUnion R := by rw [hc]; exact Finset.mem_univ y
  obtain ⟨i, hi, hy⟩ := Finset.mem_biUnion.1 hy
  exact Finset.mem_biUnion.2 ⟨i, hi, (View.mem_setOn M.view).2 hy⟩

include hM hd hc in
/-- A whole buffer is its pieces; -/
theorem cut (f : HbBuf (F := F) c M) :
    (hbPt c M f : sProp 𝕄) = bigSep Finset.univ fun i => M.view.loc (c : Thread nD τ) ↦[M.view.setOn (R i)]{fullShare} f := by
  have h := pointsTo_biUnion (Ix := Unit) (Name := ℕ) (U := Pipeline.UD sig nD τ) (Lvl := ℕ) (ℓ := M.view.loc (c : Thread nD τ)) (q := fullShare) (f := f)
    Finset.univ (fun i => M.view.setOn (R i)) (fun t _ t' _ h => (Finset.disjoint_map _).2 (hd t t' h))
  rw [cover_setOn M hM R hc] at h
  exact h

include hM hd hc in
/-- pieces at contents of their own are the whole buffer at some contents. -/
theorem glue (f₀ : HbBuf (F := F) c M) :
    (bigSep Finset.univ fun i => iprop(∃ f, M.view.loc (c : Thread nD τ) ↦[M.view.setOn (R i)]{fullShare} f)) ⊢ (iprop(∃ g, hbPt c M g) : sProp 𝕄) := by
  have : Nonempty (HbBuf (F := F) c M) := ⟨f₀⟩
  iintro H
  ihave H := (bigSep_exists_pi Finset.univ (fun i (f : HbBuf (F := F) c M) => (M.view.loc (c : Thread nD τ) ↦[M.view.setOn (R i)]{fullShare} f : sProp 𝕄))) $$ H
  icases H with ⟨%fs, H⟩
  ihave H := (pointsTo_biUnion_join Finset.univ (fun i => M.view.setOn (R i)) fs f₀
    (fun t _ t' _ h => (Finset.disjoint_map _).2 (hd t t' h))) $$ H
  icases H with ⟨%g, -, H⟩
  rw [cover_setOn M hM R hc]
  iexists g; iexact H
end

/-- A result's five copied pieces are the result at the heads' planes. -/
theorem glue_r (c : Dev nD) (M : Memref sig .tc .hbm S20x96x128 .bf16) (hM : M.IsWhole)
    (hr : ∀ (f g : HbBuf (F := F) c M) (y : S20x96x128.Idx), M.view.read (Elt F) f y = M.view.read (Elt F) g y → f (M.view.emb y) = g (M.view.emb y))
    (f : HbBuf (F := F) c M) (fo : HbBuf (F := F) c oV) (pl : Fin 15 → Fin 4 → FVec F S1x96x128 .bf16) (b : ℕ) (hb : b ≤ 10)
    (G : HbBuf (F := F) c M) (hG : M.view.read (Elt F) G = resG pl b hb) :
    (bigSep Finset.univ fun j : Fin 5 => M.view.loc (c : Thread nD τ) ↦[M.view.setOn (rR j).set]{fullShare}
      rBuf c M j f ⟨b + j.val, by omega⟩ (oBuf c fo ⟨b + j.val, by omega⟩ (pl ⟨b + j.val, by omega⟩))) ⊢ (hbPt c M G : sProp 𝕄) := by
  rw [cut c M hM (fun j : Fin 5 => (rR j).set) rR_disj rR_cover G]
  refine bigSep_mono fun j _ => Entails.of_eq (pointsTo_congr fun z hz => ?_)
  obtain ⟨y, hy, rfl⟩ := Finset.mem_map.1 hz
  refine hr _ _ y ?_
  rw [rBuf_at c M j f _ fo pl b hb rfl y hy, hG]

section
variable (c : Dev nD) (x : HbBuf (F := F) c xM) (n : HbBuf (F := F) c nM) (p : HbBuf (F := F) c pM) (w : HbBuf (F := F) c wM) (s : HbBuf (F := F) c sM)
  (fw : HbBuf (F := F) c wV) (fo : HbBuf (F := F) c oV)

abbrev dq (j : Fin 5) (i : Fin 15) (f : HbBuf (F := F) c qM) : sProp 𝕄 :=
  qM.view.loc (c : Thread nD τ) ↦[qM.view.setOn (rR j).set]{fullShare} rBuf c qM j f i (oBuf c fo i (storedR c w fw (codesV x n) (scaleV x n) s p i))
abbrev dk (j : Fin 5) (i : Fin 15) (f : HbBuf (F := F) c kM) : sProp 𝕄 :=
  kM.view.loc (c : Thread nD τ) ↦[kM.view.setOn (rR j).set]{fullShare} rBuf c kM j f i (oBuf c fo i (storedR c w fw (codesV x n) (scaleV x n) s p i))
abbrev dv (j : Fin 5) (i : Fin 15) (f : HbBuf (F := F) c vM) : sProp 𝕄 :=
  vM.view.loc (c : Thread nD τ) ↦[vM.view.setOn (rR j).set]{fullShare} rBuf c vM j f i (oBuf c fo i (storedP c w fw (codesV x n) (scaleV x n) s i))

/-- The five copies of the queries, of the keys, of the values, together. -/
theorem glueQ (f : HbBuf (F := F) c qM) : iprop(dq c x n p w s fw fo 0 0 f ∗ dq c x n p w s fw fo 1 1 f ∗ dq c x n p w s fw fo 2 2 f
    ∗ dq c x n p w s fw fo 3 3 f ∗ dq c x n p w s fw fo 4 4 f) ⊢ (hbPt c qM (qG x n p w s) : sProp 𝕄) := by
  simp only [dq, storedR_eq]
  have h := glue_r (F := F) c qM (Memref.isWhole_whole _) (fun _ _ _ h => h) f fo (planeR x n p w s) 0 (by decide) (qG x n p w s) rfl
  rw [sep5] at h
  exact h
/-- The same of the keys. -/
theorem glueK (f : HbBuf (F := F) c kM) : iprop(dk c x n p w s fw fo 0 5 f ∗ dk c x n p w s fw fo 1 6 f ∗ dk c x n p w s fw fo 2 7 f
    ∗ dk c x n p w s fw fo 3 8 f ∗ dk c x n p w s fw fo 4 9 f) ⊢ (hbPt c kM (kG x n p w s) : sProp 𝕄) := by
  simp only [dk, storedR_eq]
  have h := glue_r (F := F) c kM (Memref.isWhole_whole _) (fun _ _ _ h => h) f fo (planeR x n p w s) 5 (by decide) (kG x n p w s) rfl
  rw [sep5] at h
  exact h
/-- The same of the values. -/
theorem glueV (f : HbBuf (F := F) c vM) : iprop(dv c x n w s fw fo 0 10 f ∗ dv c x n w s fw fo 1 11 f ∗ dv c x n w s fw fo 2 12 f
    ∗ dv c x n w s fw fo 3 13 f ∗ dv c x n w s fw fo 4 14 f) ⊢ (hbPt c vM (vG x n w s) : sProp 𝕄) := by
  simp only [dv, storedP_eq]
  have h := glue_r (F := F) c vM (Memref.isWhole_whole _) (fun _ _ _ h => h) f fo (planeP x n w s) 10 (by decide) (vG x n w s) rfl
  rw [sep5] at h
  exact h

/-- The slots of the weight scratch, together; -/
theorem glueW (f₀ : HbBuf (F := F) c wV) : iprop((∃ f, wPt c 0 f) ∗ (∃ f, wPt c 1 f) ∗ (∃ f, wPt c 2 f) ∗ (∃ f, wPt c 3 f) ∗ (∃ f, wPt c 4 f) ∗ (∃ f, wPt c 5 f) ∗ (∃ f, wPt c 6 f) ∗ (∃ f, wPt c 7 f) ∗ (∃ f, wPt c 8 f) ∗ (∃ f, wPt c 9 f) ∗ (∃ f, wPt c 10 f) ∗ (∃ f, wPt c 11 f) ∗ (∃ f, wPt c 12 f) ∗ (∃ f, wPt c 13 f) ∗ (∃ f, wPt c 14 f))
    ⊢ (iprop(∃ f, hbPt c wV f) : sProp 𝕄) := by
  have h := glue c wV (Memref.isWhole_whole _) (fun i : Fin 15 => (wR i).set) wR_disj wR_cover f₀
  rw [sep15] at h
  exact h
/-- the blocks of the output scratch, together. -/
theorem glueO (f₀ : HbBuf (F := F) c oV) : iprop((∃ f, oPt c 0 f) ∗ (∃ f, oPt c 1 f) ∗ (∃ f, oPt c 2 f) ∗ (∃ f, oPt c 3 f) ∗ (∃ f, oPt c 4 f) ∗ (∃ f, oPt c 5 f) ∗ (∃ f, oPt c 6 f) ∗ (∃ f, oPt c 7 f) ∗ (∃ f, oPt c 8 f) ∗ (∃ f, oPt c 9 f) ∗ (∃ f, oPt c 10 f) ∗ (∃ f, oPt c 11 f) ∗ (∃ f, oPt c 12 f) ∗ (∃ f, oPt c 13 f) ∗ (∃ f, oPt c 14 f))
    ⊢ (iprop(∃ f, hbPt c oV f) : sProp 𝕄) := by
  have h := glue c oV (Memref.isWhole_whole _) (fun i : Fin 15 => (oR i).set) oR_disj oR_cover f₀
  rw [sep15] at h
  exact h
/-- The weight buffer, cut into its chunks. -/
theorem cutW (f : HbBuf (F := F) c wV) : (hbPt c wV f : sProp 𝕄) ⊢ iprop(wPt c 0 f ∗ wPt c 1 f ∗ wPt c 2 f ∗ wPt c 3 f ∗ wPt c 4 f ∗ wPt c 5 f
    ∗ wPt c 6 f ∗ wPt c 7 f ∗ wPt c 8 f ∗ wPt c 9 f ∗ wPt c 10 f ∗ wPt c 11 f ∗ wPt c 12 f ∗ wPt c 13 f ∗ wPt c 14 f) := by
  have h := cut c wV (Memref.isWhole_whole _) (fun i : Fin 15 => (wR i).set) wR_disj wR_cover f
  rw [sep15] at h
  exact Entails.of_eq h
/-- The head buffer, cut into the chunks' heads. -/
theorem cutO (f : HbBuf (F := F) c oV) : (hbPt c oV f : sProp 𝕄) ⊢ iprop(oPt c 0 f ∗ oPt c 1 f ∗ oPt c 2 f ∗ oPt c 3 f ∗ oPt c 4 f ∗ oPt c 5 f
    ∗ oPt c 6 f ∗ oPt c 7 f ∗ oPt c 8 f ∗ oPt c 9 f ∗ oPt c 10 f ∗ oPt c 11 f ∗ oPt c 12 f ∗ oPt c 13 f ∗ oPt c 14 f) := by
  have h := cut c oV (Memref.isWhole_whole _) (fun i : Fin 15 => (oR i).set) oR_disj oR_cover f
  rw [sep15] at h
  exact Entails.of_eq h
/-- A result, cut into its pieces. -/
theorem cutR (M : Memref sig .tc .hbm S20x96x128 .bf16) (hM : M.IsWhole) (f : HbBuf (F := F) c M) :
    (hbPt c M f : sProp 𝕄) ⊢ iprop(rPt c M 0 f ∗ rPt c M 1 f ∗ rPt c M 2 f ∗ rPt c M 3 f ∗ rPt c M 4 f) := by
  have h := cut c M hM (fun i : Fin 5 => (rR i).set) rR_disj rR_cover f
  rw [sep5] at h
  exact Entails.of_eq h

/-- The row of scales as the body copies it out. -/
theorem row_eq (fr : HbBuf (F := F) c rV) (faM : HbBuf (F := F) c aM) :
    View.write (Elt F) aM.view faM (ReadAs.same.apply (View.read (Elt F) rV.view (rV.view.writes (Elt F) fr
      [⟨Rect.unit ![0, 0] S1x96.size inb_S1x96_S1x96_0_0, k0_pay48 (k0_pay47 (View.readAt (Elt F) aV.view
        (Rect.unit (s := S96x128) ![0, 0] S96x1.size inb_S96x128_S96x1_0_0).toLoadRect (scaleV x n)))⟩]))) Finset.univ = aG x n := by
  refine (View.write_whole_univ ..).trans ?_
  funext y
  refine (View.read_writes_apply_eq_canon rV.view fr y _ (View.cover_of_tiledL (s := S1x96) _ S1x96.size (by sl_kernel_rfl) y)).trans ?_
  rw [View.canon_unit_zero (zero2 (d := ![0, 0]))]
  rfl

/-- A block of the output scratch a copy gave back. -/
theorem src_eq (i : Fin 15) (g : HbBuf (F := F) c oV) :
    (oV.view.loc (c : Thread nD τ) ↦[(oV.slice (oR i) (fun _ => rfl)).view.set]{fullShare} g : sProp 𝕄) ⊢ iprop(∃ f, oPt c i f) := by
  rw [show (oV.slice (oR i) (fun _ => rfl)).view.set = oV.view.setOn (oR i).set from View.set_slice ..]
  iintro H; iexists g; iexact H

/-- Two half shares together. -/
theorem unhalve {sp : Space} {S : Shape} {e : EltTy} (M : Memref sig .tc sp S e) (f : HbBuf (F := F) c M) :
    iprop((M.view.loc (c : Thread nD τ) ↦{fullShare.left} f) ∗ (M.view.loc (c : Thread nD τ) ↦{fullShare.right} f)) ⊢ (hbPt c M f : sProp 𝕄) :=
  (pointsTo_share (PosShare.mem_left_op_right fullShare)).2

/-- What the body takes: the operands, and every other buffer at anything, the counters at zero, nothing owed. -/
def bodyTakes (W : Waits sig Unit) : sProp 𝕄 :=
  iprop(hbPt c xM x ∗ hbPt c nM n ∗ hbPt c pM p ∗ hbPt c wM w ∗ hbPt c sM s
    ∗ (∃ f, hbPt c xV f) ∗ (∃ f, hbPt c nV f) ∗ (∃ f, hbPt c pV f) ∗ (∃ f, hbPt c sV f) ∗ (∃ f, hbPt c wV f) ∗ (∃ f, hbPt c cV f)
    ∗ (∃ f, hbPt c aV f) ∗ (∃ f, hbPt c rV f) ∗ (∃ f, hbPt c cosV f) ∗ (∃ f, hbPt c sinV f) ∗ (∃ f, hbPt c oV f)
    ∗ (∃ f, hbPt c qM f) ∗ (∃ f, hbPt c kM f) ∗ (∃ f, hbPt c vM f) ∗ (∃ f, hbPt c cM f) ∗ (∃ f, hbPt c aM f)
    ∗ semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20 ∗ owes (c : Thread nD τ) 0 W)
/-- What it gives: the operands, the scratch at anything, the results at their values, the counters at zero, nothing owed. -/
def bodyGives : sProp 𝕄 :=
  iprop(hbPt c xM x ∗ hbPt c nM n ∗ hbPt c pM p ∗ hbPt c wM w ∗ hbPt c sM s
    ∗ (∃ f, hbPt c xV f) ∗ (∃ f, hbPt c nV f) ∗ (∃ f, hbPt c pV f) ∗ (∃ f, hbPt c sV f) ∗ (∃ f, hbPt c wV f) ∗ (∃ f, hbPt c cV f)
    ∗ (∃ f, hbPt c aV f) ∗ (∃ f, hbPt c rV f) ∗ (∃ f, hbPt c cosV f) ∗ (∃ f, hbPt c sinV f) ∗ (∃ f, hbPt c oV f)
    ∗ hbPt c qM (qG x n p w s) ∗ hbPt c kM (kG x n p w s) ∗ hbPt c vM (vG x n w s) ∗ hbPt c cM (codesV x n) ∗ hbPt c aM (aG x n)
    ∗ semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20 ∗ ∃ W, owes (c : Thread nD τ) 0 W)
end

end Cert.KernelIdeal.Hand

end
-- ==== Proof.Ideal.Body.lean ====
module

public import proofs.«01_k».proof.Proof.Ideal.Join

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

set_option maxHeartbeats 8000000 in
set_option maxRecDepth 65536 in
/-- The body, from its operands to its results at their values. -/
theorem body_runs (c : Dev nD) (x : HbBuf (F := F) c xM) (n : HbBuf (F := F) c nM) (p : HbBuf (F := F) c pM) (w : HbBuf (F := F) c wM) (s : HbBuf (F := F) c sM)
    (W : Waits sig Unit) (K : PUnit → sProp 𝕄) :
    iprop(bodyTakes c x n p w s W ∗ (bodyGives c x n p w s -∗ K ⟨⟩)) ⊢ wp frame (wpE (defs₀ (F := F)) Variants.none c none) Set.univ body K := by
  unfold body bodyAt0 bodyTakes
  simp only [cc0_rmsnorm_fp8_qkv_rope_eq_skeleton]; unfold cc0_rmsnorm_fp8_qkv_rope_skel
  iintro ⟨⟨Hx, Hn, Hp, Hw, Hs, ⟨%fx, Hfx⟩, ⟨%fn, Hfn⟩, ⟨%fp, Hfp⟩, ⟨%fs, Hfs⟩, ⟨%fw, Hfw⟩, ⟨%fc, Hfc⟩, ⟨%fa, Hfa⟩, ⟨%fr, Hfr⟩, ⟨%fcos, Hfcos⟩, ⟨%fsin, Hfsin⟩,
    ⟨%fo, Hfo⟩, ⟨%fq, Hfq⟩, ⟨%fk, Hfk⟩, ⟨%fv, Hfv⟩, ⟨%fcM, HcM⟩, ⟨%faM, HaM⟩, Q0, Q1, Q2, Q3, Q4, Q5, Q6, Q7, Q8, Q9, Q10, Q11, Q12, Q13, Q14, Q15, Q16, Q17, Q18, Q19, Q20, HO⟩, HK⟩
  ihave ⟨W0, W1, W2, W3, W4, W5, W6, W7, W8, W9, W10, W11, W12, W13, W14⟩ := (cutW c fw) $$ Hfw
  ihave ⟨O0, O1, O2, O3, O4, O5, O6, O7, O8, O9, O10, O11, O12, O13, O14⟩ := (cutO c fo) $$ Hfo
  ihave ⟨R0, R1, R2, R3, R4⟩ := (cutR c qM (Memref.isWhole_whole _) fq) $$ Hfq
  ihave ⟨R5, R6, R7, R8, R9⟩ := (cutR c kM (Memref.isWhole_whole _) fk) $$ Hfk
  ihave ⟨R10, R11, R12, R13, R14⟩ := (cutR c vM (Memref.isWhole_whole _) fv) $$ Hfv
  ihave HcM := (park _) $$ HcM
  sl_exec_parts
  ihave HcM := (unpark _) $$ HcM
  ihave Hfc := (gen c cV _) $$ Hfc
  icases Hfc with ⟨%cb, %hcb, Hfc⟩
  ihave Hfa := (gen c aV _) $$ Hfa
  icases Hfa with ⟨%ab, %hab, Hfa⟩
  have hcb : Same cb (codesB c x n fx fn fc) := ⟨hcb.eq.trans rfl⟩
  have hab : Same ab (scaleB c x n fx fn fa) := ⟨hab.eq.trans rfl⟩
  ihave Hfs := (gen c sV _) $$ Hfs
  icases Hfs with ⟨%sb, %hsb, Hfs⟩
  ihave Hfp := (gen c pV _) $$ Hfp
  icases Hfp with ⟨%pb, %hpb, Hfp⟩
  ihave Hfc := (halves c cV _) $$ Hfc
  icases Hfc with ⟨Hfc, Hfc'⟩
  ihave Hfc := (park _) $$ Hfc
  imod (Transfers.mixedBatch_alloc' (Lvl := ℕ) (countersEmb (U := Pipeline.UD sig nD τ)) (c : Thread nD τ) () amt
      (deliv c w fw cb ab sb pb fcM fo fq fk fv) (sm := SemLoc.dma 19) (E := Set.univ)) $$ Q19 with HB
  unfold deliv
  set_option sl_exec.maxSteps 1 in sl_exec_parts
  ihave Hfc := (unpark _) $$ Hfc
  sl_exec_parts
  sl_step
  ihave Hc := (unhalve c cV cb) $$ [Hfc Hfc']
  · isplitl [Hfc]; · iexact Hfc
    iexact Hfc'
  obtain ⟨hcb⟩ := hcb
  obtain ⟨hab⟩ := hab
  obtain ⟨hsb⟩ := hsb
  obtain ⟨hpb⟩ := hpb
  rw [codesB_eq] at hcb
  rw [scaleB_eq] at hab
  replace hsb : sb = s := hsb.trans (View.write_whole_univ ..)
  replace hpb : pb = p := hpb.trans (View.write_whole_univ ..)
  subst hcb hab
  subst sb
  subst pb
  ihave GQ := (glueQ c x n p w s fw fo fq) $$ [HB_dst1 HB_dst2 HB_dst3 HB_dst4 HB_dst5]
  · isplitl [HB_dst1]; · iexact HB_dst1
    isplitl [HB_dst2]; · iexact HB_dst2
    isplitl [HB_dst3]; · iexact HB_dst3
    isplitl [HB_dst4]; · iexact HB_dst4
    iexact HB_dst5
  ihave GK := (glueK c x n p w s fw fo fk) $$ [HB_dst6 HB_dst7 HB_dst8 HB_dst9 HB_dst10]
  · isplitl [HB_dst6]; · iexact HB_dst6
    isplitl [HB_dst7]; · iexact HB_dst7
    isplitl [HB_dst8]; · iexact HB_dst8
    isplitl [HB_dst9]; · iexact HB_dst9
    iexact HB_dst10
  ihave GV := (glueV c x n w s fw fo fv) $$ [HB_dst11 HB_dst12 HB_dst13 HB_dst14 HB_dst15]
  · isplitl [HB_dst11]; · iexact HB_dst11
    isplitl [HB_dst12]; · iexact HB_dst12
    isplitl [HB_dst13]; · iexact HB_dst13
    isplitl [HB_dst14]; · iexact HB_dst14
    iexact HB_dst15
  ihave GW := (glueW c fw) $$ [W0 W1 W2 W3 W4 W5 W6 W7 W8 W9 W10 W11 W12 W13 W14]
  · isplitl [W0]; · iexists _; iexact W0
    isplitl [W1]; · iexists _; iexact W1
    isplitl [W2]; · iexists _; iexact W2
    isplitl [W3]; · iexists _; iexact W3
    isplitl [W4]; · iexists _; iexact W4
    isplitl [W5]; · iexists _; iexact W5
    isplitl [W6]; · iexists _; iexact W6
    isplitl [W7]; · iexists _; iexact W7
    isplitl [W8]; · iexists _; iexact W8
    isplitl [W9]; · iexists _; iexact W9
    isplitl [W10]; · iexists _; iexact W10
    isplitl [W11]; · iexists _; iexact W11
    isplitl [W12]; · iexists _; iexact W12
    isplitl [W13]; · iexists _; iexact W13
    iexists _; iexact W14
  ihave GO := (glueO c fo) $$ [HB_src1 HB_src2 HB_src3 HB_src4 HB_src5 HB_src6 HB_src7 HB_src8 HB_src9 HB_src10 HB_src11 HB_src12 HB_src13 HB_src14 HB_src15]
  · isplitl [HB_src1]; · iapply (src_eq c 0 _); iexact HB_src1
    isplitl [HB_src2]; · iapply (src_eq c 1 _); iexact HB_src2
    isplitl [HB_src3]; · iapply (src_eq c 2 _); iexact HB_src3
    isplitl [HB_src4]; · iapply (src_eq c 3 _); iexact HB_src4
    isplitl [HB_src5]; · iapply (src_eq c 4 _); iexact HB_src5
    isplitl [HB_src6]; · iapply (src_eq c 5 _); iexact HB_src6
    isplitl [HB_src7]; · iapply (src_eq c 6 _); iexact HB_src7
    isplitl [HB_src8]; · iapply (src_eq c 7 _); iexact HB_src8
    isplitl [HB_src9]; · iapply (src_eq c 8 _); iexact HB_src9
    isplitl [HB_src10]; · iapply (src_eq c 9 _); iexact HB_src10
    isplitl [HB_src11]; · iapply (src_eq c 10 _); iexact HB_src11
    isplitl [HB_src12]; · iapply (src_eq c 11 _); iexact HB_src12
    isplitl [HB_src13]; · iapply (src_eq c 12 _); iexact HB_src13
    isplitl [HB_src14]; · iapply (src_eq c 13 _); iexact HB_src14
    iapply (src_eq c 14 _); iexact HB_src15
  iapply HK
  unfold bodyGives
  isplitl [Hx]; · iexact Hx
  isplitl [Hn]; · iexact Hn
  isplitl [Hp]; · iexact Hp
  isplitl [Hw]; · iexact Hw
  isplitl [Hs]; · iexact Hs
  isplitl [Hfx]; · iexists _; iexact Hfx
  isplitl [Hfn]; · iexists _; iexact Hfn
  isplitl [Hfp]; · iexists _; iexact Hfp
  isplitl [Hfs]; · iexists _; iexact Hfs
  isplitl [GW]; · iexact GW
  isplitl [Hc]; · iexists _; iexact Hc
  isplitl [Hfa]; · iexists _; iexact Hfa
  isplitl [Hfr]; · iexists _; iexact Hfr
  isplitl [Hfcos]; · iexists _; iexact Hfcos
  isplitl [Hfsin]; · iexists _; iexact Hfsin
  isplitl [GO]; · iexact GO
  isplitl [GQ]; · iexact GQ
  isplitl [GK]; · iexact GK
  isplitl [GV]; · iexact GV
  isplitl [HB_dst0]
  · rw [show (View.write (Elt F) cM.view fcM (ReadAs.same.apply (View.read (Elt F) cV.view (codesV x n))) Finset.univ : HbBuf (F := F) c cM) = codesV x n from View.write_whole_univ ..]
    iexact HB_dst0
  isplitl [HaM]
  · rw [← row_eq c x n fr faM]; iexact HaM
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [HB]; · iexact HB
  isplitl [Q20]; · iexact Q20
  iexists _; iexact HO

end Cert.KernelIdeal.Hand

end
-- ==== Proof.Ideal.Run.lean ====
/-
  The launch of the kernel: the program runs, and leaves its results at their values, its arguments as they were and every counter at zero.
-/
module

public import proofs.«01_k».proof.Proof.Ideal.Body
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The kernel's own semaphores. -/
abbrev osem0 : Fin 21 → SemLoc sig := fun j => SemLoc.dma ⟨j.val, by have := j.isLt; exact this⟩
/-- The kernel's semaphores are its own. -/
theorem ownSemFacts0 : Pipeline.OwnSemFacts cfg0.spec osem0 := by decide
/-- The kernel's semaphores, written out. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semPt c 0 ∗ semPt c 1 ∗ semPt c 2 ∗ semPt c 3 ∗ semPt c 4 ∗ semPt c 5 ∗ semPt c 6 ∗ semPt c 7 ∗ semPt c 8 ∗ semPt c 9 ∗ semPt c 10 ∗ semPt c 11 ∗ semPt c 12 ∗ semPt c 13 ∗ semPt c 14 ∗ semPt c 15 ∗ semPt c 16 ∗ semPt c 17 ∗ semPt c 18 ∗ semPt c 19 ∗ semPt c 20) := by
  rw [Pipeline.ownSems0_eq_of_list c osem0 [0, 1, 2, 3, 4, 5, 6, 7, 8, 9, 10, 11, 12, 13, 14, 15, 16, 17, 18, 19, 20] (by decide) (by decide)]; rfl
/-- The buffers the body reads in HBM, the ones it writes there. -/
def H0 : Finset (Ref sig .tc) := {main_v0, main_v1, main_v2, main_arg3, main_arg4}
def R0 : Finset (Ref sig .tc) := {main_v3_0, main_v3_1, main_v3_2, main_v3_3, main_v3_4}
/-- The operands are among the buffers that the region does not stage. -/
theorem H0_sub : H0 ⊆ Pipeline.restRefs sig cfg0.spec := by decide
/-- The results are too, and are no operands. -/
theorem R0_sub : R0 ⊆ Pipeline.restRefs sig cfg0.spec \ H0 := by decide
/-- The operands, written out. -/
theorem H0_eq (c : Dev nD) :
    (bigSep H0 (fun b => ((c : Thread nD τ).loc b) ↦{fullShare} V m c b) : sProp 𝕄)
      = iprop(hbPt c xM (V m c main_v0) ∗ hbPt c nM (V m c main_v1) ∗ hbPt c pM (V m c main_v2) ∗ hbPt c wM (V m c main_arg3) ∗ hbPt c sM (V m c main_arg4)) := by
  rw [BI.bigSep_eq_bigSepL_of_eq [main_v0, main_v1, main_v2, main_arg3, main_arg4] (by decide) (by decide)]; rfl
/-- The results, written out. -/
theorem R0_eq (c : Dev nD) (G : (b : Ref sig .tc) → Buf (Elt F) ((c : Thread nD τ).loc b)) :
    (bigSep R0 (fun b => ((c : Thread nD τ).loc b) ↦{fullShare} G b) : sProp 𝕄)
      = iprop(hbPt c qM (G main_v3_0) ∗ hbPt c kM (G main_v3_1) ∗ hbPt c vM (G main_v3_2) ∗ hbPt c cM (G main_v3_3) ∗ hbPt c aM (G main_v3_4)) := by
  rw [BI.bigSep_eq_bigSepL_of_eq [main_v3_0, main_v3_1, main_v3_2, main_v3_3, main_v3_4] (by decide) (by decide)]; rfl

/-- What the region leaves in each buffer: the results at their values. -/
def G (c : Dev nD) : (b : Ref sig .tc) → Buf (Elt F) ((c : Thread nD τ).loc b) :=
  Function.update (Function.update (Function.update (Function.update (Function.update (V m c)
    main_v3_0 (qG (V m c main_v0) (V m c main_v1) (V m c main_v2) (V m c main_arg3) (V m c main_arg4)))
    main_v3_1 (kG (V m c main_v0) (V m c main_v1) (V m c main_v2) (V m c main_arg3) (V m c main_arg4)))
    main_v3_2 (vG (V m c main_v0) (V m c main_v1) (V m c main_arg3) (V m c main_arg4)))
    main_v3_3 (codesV (V m c main_v0) (V m c main_v1)))
    main_v3_4 (aG (V m c main_v0) (V m c main_v1))
/-- The region leaves the queries. -/
theorem G_q (c : Dev nD) : G m c main_v3_0 = qG (V m c main_v0) (V m c main_v1) (V m c main_v2) (V m c main_arg3) (V m c main_arg4) := by
  unfold G
  rw [Function.update_of_ne (by decide), Function.update_of_ne (by decide), Function.update_of_ne (by decide), Function.update_of_ne (by decide), Function.update_self]
/-- The region leaves the keys. -/
theorem G_k (c : Dev nD) : G m c main_v3_1 = kG (V m c main_v0) (V m c main_v1) (V m c main_v2) (V m c main_arg3) (V m c main_arg4) := by
  unfold G
  rw [Function.update_of_ne (by decide), Function.update_of_ne (by decide), Function.update_of_ne (by decide), Function.update_self]
/-- The region leaves the values. -/
theorem G_v (c : Dev nD) : G m c main_v3_2 = vG (V m c main_v0) (V m c main_v1) (V m c main_arg3) (V m c main_arg4) := by
  unfold G
  rw [Function.update_of_ne (by decide), Function.update_of_ne (by decide), Function.update_self]
/-- The region leaves the codes. -/
theorem G_c (c : Dev nD) : G m c main_v3_3 = codesV (V m c main_v0) (V m c main_v1) := by
  unfold G
  rw [Function.update_of_ne (by decide), Function.update_self]
/-- The region leaves the scales. -/
theorem G_a (c : Dev nD) : G m c main_v3_4 = aG (V m c main_v0) (V m c main_v1) := by
  unfold G
  rw [Function.update_self]

/-- The proof data: no window, the body's buffers as it takes them and as it gives them. -/
def dats (_ : Fin 1) (c : Dev nD) : Dat τ (Elt F) Unit ℕ (Pipeline.UD sig nD τ) ℕ cfg0 c where
  A w := V m c (Pipeline.arrRef cfg0.spec w)
  after w t := w.elim0
  Φ t := if t = 0 then Pipeline.ΦDRV osem0 cfg0.spec H0 R0 (V m) (V m) c else Pipeline.ΦDRV osem0 cfg0.spec H0 R0 (V m) (G m) c
  q _ := fullShare
  owed _ := 0

/-- What the body takes at its one step. -/
theorem Phi_first (c : Dev nD) (t : Fin cfg0.N) : (dats m 0 c).Φ t.castSucc = Pipeline.ΦDRV osem0 cfg0.spec H0 R0 (V m) (V m) c := by
  dsimp only [dats]; rw [fin_N0 t]; exact if_pos rfl
/-- What the body gives at its one step. -/
theorem Phi_last (c : Dev nD) (t : Fin cfg0.N) : (dats m 0 c).Φ t.succ = Pipeline.ΦDRV osem0 cfg0.spec H0 R0 (V m) (G m) c := by
  dsimp only [dats]; exact if_neg (Fin.succ_ne_zero t)

def pre (c : Dev nD) (t : Fin cfg0.N) : sProp 𝕄 := iprop((dats m 0 c).Φ t.castSucc ∗ (dats m 0 c).owesAt () t.castSucc ∗ emp)
def post (c : Dev nD) (t : Fin cfg0.N) : sProp 𝕄 := iprop((dats m 0 c).Φ t.succ ∗ (dats m 0 c).owesAt () t.succ ∗ emp)

set_option maxHeartbeats 1600000 in
/-- The body takes its buffers and gives them back with the results at their values. -/
theorem sound_body (c : Dev nD) (t : Fin cfg0.N) :
    pre m c t ⊢ wp frame (wpE (defs₀ (F := F)) Variants.none c none) Set.univ (bodyAt0 t) (fun _ => post m c t) := by
  unfold pre post
  rw [Phi_first, Phi_last, show (bodyAt0 t : Prog (TpuEff nD τ sig (Elt F) Λ₀ .tc) PUnit) = body from rfl]
  unfold Pipeline.ΦDRV
  rw [scopedRest0_eq, ownSems00_eq, H0_eq, R0_eq, R0_eq, G_q, G_k, G_v, G_c, G_a]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10⟩, ⟨Q0, Q1, Q2, Q3, Q4, Q5, Q6, Q7, Q8, Q9, Q10, Q11, Q12, Q13, Q14, Q15, Q16, Q17, Q18, Q19, Q20⟩, ⟨Hx, Hn, Hp, Hw, Hs⟩, ⟨Rq, Rk, Rv, Rc, Ra⟩⟩, ⟨%W, -, HW⟩, -⟩
  iapply (body_runs c (V m c main_v0) (V m c main_v1) (V m c main_v2) (V m c main_arg3) (V m c main_arg4) W _)
  isplitl [S0 S1 S2 S3 S4 S5 S6 S7 S8 S9 S10 Q0 Q1 Q2 Q3 Q4 Q5 Q6 Q7 Q8 Q9 Q10 Q11 Q12 Q13 Q14 Q15 Q16 Q17 Q18 Q19 Q20 Hx Hn Hp Hw Hs Rq Rk Rv Rc Ra HW]
  · unfold bodyTakes
    isplitl [Hx]; · iexact Hx
    isplitl [Hn]; · iexact Hn
    isplitl [Hp]; · iexact Hp
    isplitl [Hw]; · iexact Hw
    isplitl [Hs]; · iexact Hs
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Rq]; · iexists _; iexact Rq
    isplitl [Rk]; · iexists _; iexact Rk
    isplitl [Rv]; · iexists _; iexact Rv
    isplitl [Rc]; · iexists _; iexact Rc
    isplitl [Ra]; · iexists _; iexact Ra
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexact HW
  unfold bodyGives
  iintro ⟨Hx, Hn, Hp, Hw, Hs, S0, S1, S2, S3, S4, S5, S6, S7, S8, S9, S10, Rq, Rk, Rv, Rc, Ra, Q0, Q1, Q2, Q3, Q4, Q5, Q6, Q7, Q8, Q9, Q10, Q11, Q12, Q13, Q14, Q15, Q16, Q17, Q18, Q19, Q20, ⟨%W', HW'⟩⟩
  isplitl [S0 S1 S2 S3 S4 S5 S6 S7 S8 S9 S10 Q0 Q1 Q2 Q3 Q4 Q5 Q6 Q7 Q8 Q9 Q10 Q11 Q12 Q13 Q14 Q15 Q16 Q17 Q18 Q19 Q20 Hx Hn Hp Hw Hs Rq Rk Rv Rc Ra]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Q0 Q1 Q2 Q3 Q4 Q5 Q6 Q7 Q8 Q9 Q10 Q11 Q12 Q13 Q14 Q15 Q16 Q17 Q18 Q19 Q20]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      iexact Q20
    isplitl [Hx Hn Hp Hw Hs]
    · isplitl [Hx]; · iexact Hx
      isplitl [Hn]; · iexact Hn
      isplitl [Hp]; · iexact Hp
      isplitl [Hw]; · iexact Hw
      iexact Hs
    isplitl [Rq]; · iexact Rq
    isplitl [Rk]; · iexact Rk
    isplitl [Rv]; · iexact Rv
    isplitl [Rc]; · iexact Rc
    iexact Ra
  isplitl [HW']
  · iexists W'; isplitr; · ipureintro; exact fun _ _ => Or.inl trivial
    iexact HW'
  iempintro

/-- The body's row in the table of bodies. -/
theorem defs₀_row (t : Fin cfg0.N) :
    defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_body m c t) rfl .rfl fun _ => .rfl

/-- The host lines before and after the region. -/
theorem hmainD : Pipeline.HMainK (Ix := Unit) (Name := ℕ) (U := Pipeline.UD sig nD τ) (Lvl := ℕ) cfgs 0 defs₀ Variants.none m (main (F := F))
    (fun c b => V0 m c (Proc.devRef .tc b)) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- A region that stages no window changes no array that way. -/
theorem withArrays_none {gr : ℕ} (win : Fin 0 → Pipeline.WinSpec sig gr) (c : Dev nD) (W : Valuation τ sig (Elt F))
    (A : (w : Fin 0) → Buf (Elt F) ((win w).arr.view.loc (c.tc : Thread nD τ))) : Pipeline.withArrays win c W A = W :=
  funext fun _ => dif_neg fun ⟨w, _⟩ => w.elim0

/-- What a buffer of @main holds at the end: what the host lines after the region make of what the region left. -/
def atEnd (c : Dev nD) : Valuation τ sig (Elt F) :=
  StableHlo.after hostOps1 (Pipeline.withR (V0 m c) R0 c (G m c))

set_option backward.isDefEq.respectTransparency.types false in
/-- The program runs, and leaves each buffer as the host lines after the region leave it, and every counter at zero. -/
theorem run_main : θ_run defs (onTc (τ := τ) (main (F := F))) (s₀ m ρ)
    (fun r => (∀ c : Dev nD, ∀ b ∈ Pipeline.restRefs sig cfg0.spec, r.2.mem ((c.tc : Thread nD τ).loc b) = atEnd m c (Proc.devRef .tc b)) ∧ r.2.sem = fun _ => 0) :=
  Pipeline.θ_run_frame_dmaR_aroundV (Q' := _) (hQ' := fun r h => ⟨fun c b hb => ((h.1 c).2 b hb).trans (congrFun (congrArg (StableHlo.after hostOps1) (withArrays_none ..)) _), h.2⟩) cfgs (dats m) (0 : Fin 1) launch0 osem0 defs₀ Variants.none ownSemFacts0 H0 R0 H0_sub R0_sub m ρ main
    (fun c => (body_obligation m c).loose) (fun c w => w.elim0) (fun _ _ => rfl) (V0 m) [hostOps1] sfx_sub sfx_fresh sfx_keeps (G m) (hmainD m)
    (fun c w => w.elim0) (fun c => Entails.of_eq (Phi_first m c t0_0).symm) (fun c => Entails.of_eq (Phi_last m c t0_0))

/-- A buffer that neither the kernel nor a host line after it writes ends as the kernel found it. -/
theorem kept (c : Dev nD) (b : Ref sig .tc) (h1 : (hostOps1 : List (HloOp τ sig (Elt F))).Forall fun op => Proc.devRef .tc b ∉ op.writes) (h2 : b ∉ R0) :
    atEnd m c (Proc.devRef .tc b) = V m c b := by
  unfold atEnd
  rw [StableHlo.after_of_forall_not_mem (b := Proc.devRef .tc b) _ _ (List.forall_iff_forall_mem.mp h1), Pipeline.withR_of_not_mem _ _ _ _ _ h2]

/-- No host line after the region writes an argument. -/
theorem kept_arg (b : Ref sig .tc) (h : b = main_arg0 ∨ b = main_arg1 ∨ b = main_arg2 ∨ b = main_arg3 ∨ b = main_arg4) :
    (hostOps1 : List (HloOp τ sig (Elt F))).Forall fun op => Proc.devRef .tc b ∉ op.writes := by
  simp only [hostOps1, List.Forall, StableHlo.unary_writes, StableHlo.reshape_writes, Finset.mem_singleton]
  rcases h with rfl | rfl | rfl | rfl | rfl <;> repeat' apply And.intro
  all_goals exact StableHlo.devRef_ne_of_ne (by decide)

/-- The program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  refine ⟨?_, ?_, ?_, ?_, ?_⟩
  · rw [h.1 c main_arg0 (by decide), kept m c main_arg0 (kept_arg _ (by simp)) (by decide), V_main_arg0]
  · rw [h.1 c main_arg1 (by decide), kept m c main_arg1 (kept_arg _ (by simp)) (by decide), V_main_arg1]
  · rw [h.1 c main_arg2 (by decide), kept m c main_arg2 (kept_arg _ (by simp)) (by decide), V_main_arg2]
  · rw [h.1 c main_arg3 (by decide), kept m c main_arg3 (kept_arg _ (by simp)) (by decide), V_main_arg3]
  · rw [h.1 c main_arg4 (by decide), kept m c main_arg4 (kept_arg _ (by simp)) (by decide), V_main_arg4]

end Cert.KernelIdeal.Hand

end
-- ==== Proof.Spec.lean ====
/-
  The exponent of a positive number, found by two methods: by counting the powers of two that do not exceed it, and by
  a search for its exponent field, bit by bit. Both give the same word, and so the same scale.
-/
module

public import Idealize.ShloMosaic.Lib.Pointwise
public import Idealize.ShloMosaic.Lib.IndicatorCount

@[expose] public section

noncomputable section

namespace Cert.Spec

open Idealize.ShloMosaic

/-- The number with exponent field `k` and no fraction. -/
def lift (k : ℕ) : EReal := Ideal.ofBits .f32 (BitVec.ofNat 32 (k * 2 ^ 23))

/-- The exponent field of a word built by shifting a number to the field is that number. -/
theorem field_words : ∀ k : Fin 256, ((BitVec.ofNat 32 (k.val * 2 ^ 23)).extractLsb' 23 8).toNat = k.val
    ∧ ((BitVec.ofNat 32 (k.val * 2 ^ 23)).extractLsb' 0 23).toNat = 0
    ∧ ((BitVec.ofNat 32 (k.val * 2 ^ 23)).extractLsb' 31 1 == 1#1) = false := by decide +kernel

/-- The words of the search denote zero, the powers of two and infinity. -/
theorem lift_eq (k : ℕ) (hk : k < 256) :
    lift k = if k = 255 then ⊤ else if k = 0 then 0 else (((2 : ℝ) ^ ((k : ℤ) - 127) : ℝ) : EReal) := by
  obtain ⟨e1, e2, e3⟩ := field_words ⟨k, hk⟩
  dsimp only at e1 e2 e3
  show Ideal.ieee 8 23 _ = _
  unfold Ideal.ieee
  simp only [e1, e2, e3, show 8 + 23 = 31 from rfl]
  by_cases h : k = 255
  · simp [h]
  · by_cases h0 : k = 0
    · simp [h0]
    · simp only [h, h0, if_false, show (2 ^ 8 - 1 : ℕ) = 255 from rfl, Bool.false_eq_true]
      congr 1
      rw [show ((k : ℤ) - (2 ^ (8 - 1) - 1) - ((23 : ℕ) : ℤ)) = ((k : ℤ) - 127) - 23 by norm_num, zpow_sub₀ (by norm_num : (2 : ℝ) ≠ 0)]
      generalize (2 : ℝ) ^ ((k : ℤ) - 127) = z
      norm_num
      ring

/-- Larger fields denote larger numbers. -/
theorem lift_mono {k k' : ℕ} (h : k ≤ k') (hk : k' < 256) : lift k ≤ lift k' := by
  rw [lift_eq k (by omega), lift_eq k' hk]
  split_ifs <;> first | omega | exact le_top | exact le_rfl | skip
  · exact_mod_cast (zpow_pos (by norm_num : (0:ℝ) < 2) _).le
  · exact EReal.coe_le_coe_iff.2 (zpow_le_zpow_right₀ (by norm_num : (1:ℝ) ≤ 2) (by omega))

/-- One step of the search: take the larger field if its number is at most `y`. -/
def step (y : EReal) (b t : ℕ) : ℕ := if lift (b + t) ≤ y then b + t else b
/-- The field found, from the top bit down. -/
def field (y : EReal) : ℕ :=
  step y (step y (step y (step y (step y (step y (step y (step y 0 128) 64) 32) 16) 8) 4) 2) 1

/-- What the search keeps: the field found so far is reached, and no field `t` or more above it is. -/
def Inv (y : EReal) (b t : ℕ) : Prop :=
  b + t ≤ 256 ∧ (b = 0 ∨ lift b ≤ y) ∧ ∀ k, b + t ≤ k → k < 256 → ¬ lift k ≤ y

/-- A step of the search halves the interval that holds the field. -/
theorem step_inv {y : EReal} {b t : ℕ} (ht : 0 < t) (h : Inv y b (2 * t)) : Inv y (step y b t) t := by
  obtain ⟨h1, h2, h3⟩ := h
  unfold step
  split_ifs with hc
  · exact ⟨by omega, Or.inr hc, fun k hk => h3 k (by omega)⟩
  · refine ⟨by omega, h2, fun k hk hk' hy => hc ((lift_mono hk hk').trans hy)⟩

/-- The search ends with the field. -/
theorem field_inv (y : EReal) : Inv y (field y) 1 := by
  have h0 : Inv y 0 (2 * 128) := ⟨by omega, Or.inl rfl, fun k h h' => by omega⟩
  exact step_inv (by decide) (step_inv (t := 2) (by decide) (step_inv (t := 4) (by decide) (step_inv (t := 8) (by decide)
    (step_inv (t := 16) (by decide) (step_inv (t := 32) (by decide) (step_inv (t := 64) (by decide)
      (step_inv (t := 128) (by decide) h0)))))))

/-- A field has eight bits. -/
theorem field_lt (y : EReal) : field y < 256 := by have := (field_inv y).1; omega

/-- A power of two is at most a number exactly when its field is at most the number's. -/
theorem lift_le_iff (y : EReal) (k : ℕ) (h0 : 0 < k) (hk : k < 256) : lift k ≤ y ↔ k ≤ field y := by
  obtain ⟨h1, h2, h3⟩ := field_inv y
  constructor
  · intro h; by_contra hc; exact h3 k (by omega) hk h
  · intro h
    rcases h2 with h2 | h2
    · omega
    · exact (lift_mono h (by omega)).trans h2

/-- Only infinity has the largest field. -/
theorem field_top (y : EReal) : field y = 255 ↔ y = ⊤ := by
  have h := lift_le_iff y 255 (by decide) (by decide)
  rw [lift_eq 255 (by decide), if_pos rfl, top_le_iff] at h
  have := field_lt y
  constructor
  · intro e; exact h.2 (by omega)
  · intro e; have := h.1 e; omega

/-- How many of the 254 powers are at most `y`. -/
theorem card_powers (y : EReal) :
    (Finset.univ.filter fun k : Fin 254 => lift (k.val + 1) ≤ y).card = min (field y) 254 := by
  have : (Finset.univ.filter fun k : Fin 254 => lift (k.val + 1) ≤ y) = Finset.univ.filter fun k : Fin 254 => k.val < field y := by
    ext k
    simp only [Finset.mem_filter, Finset.mem_univ, true_and]
    rw [lift_le_iff y _ (by omega) (by omega)]; omega
  rw [this, Fin.card_filter_val_lt, min_comm]

/-! ## The words -/

/-- The exponent of `y`, as a word. -/
def expoOf (y : EReal) : BitVec 32 :=
  if field y = 0 ∨ field y = 255 then 0#32 else BitVec.ofNat 32 (field y) - 126#32
/-- The exponent of a scale whose row has largest entry `a` and quotient `y`. -/
def expo (a y : EReal) : BitVec 32 := if a = 0 then 0#32 else expoOf y
/-- Two to the power of a word. -/
def two (e : BitVec 32) : EReal := (((2 : ℝ) ^ e.toInt : ℝ) : EReal)

/-- The words a search can end in. -/
def Small (e : BitVec 32) : Prop := ∃ k : Fin 257, e = BitVec.ofInt 32 ((k.val : ℤ) - 128)

/-- The exponents that the search gives are small. -/
theorem small_words : ∀ b : Fin 256, b.val ≠ 0 → b.val ≠ 255 →
    BitVec.ofNat 32 b.val - 126#32 = BitVec.ofInt 32 (((⟨b.val + 2, by omega⟩ : Fin 258).val : ℤ) - 128) := by decide +kernel

/-- Every exponent is small. -/
theorem expo_small (a y : EReal) : Small (expo a y) := by
  have h0 : Small 0#32 := ⟨128, by decide⟩
  unfold expo expoOf
  have := field_lt y
  split_ifs with h1 h2
  · exact h0
  · exact h0
  · exact ⟨⟨field y + 2, by omega⟩, small_words ⟨field y, this⟩ (fun e => h2 (Or.inl e)) (fun e => h2 (Or.inr e))⟩

/-- Negation of small exponents, word by word. -/
theorem neg_words : ∀ k : Fin 257, 0#32 - BitVec.ofInt 32 ((k.val : ℤ) - 128) = BitVec.ofInt 32 (((256 - k.val : ℕ) : ℤ) - 128) := by
  decide +kernel

/-- The negation of a small exponent is small. -/
theorem small_neg {e : BitVec 32} (h : Small e) : Small (0#32 - e) := by
  obtain ⟨k, rfl⟩ := h
  exact ⟨⟨256 - k.val, by omega⟩, neg_words k⟩

/-- The two exponent fields of a small word, each in range. -/
theorem half_words : ∀ k : Fin 257,
    let e := BitVec.ofInt 32 ((k.val : ℤ) - 128)
    IntOp.addi (IntOp.shrsi .vector e 1#32) 127#32 = BitVec.ofNat 32 (k.val / 2 + 63)
    ∧ IntOp.addi (IntOp.subi e (IntOp.shrsi .vector e 1#32)) 127#32 = BitVec.ofNat 32 ((k.val + 1) / 2 + 63)
    ∧ e.toInt = (k.val : ℤ) - 128 := by decide +kernel

/-- Shifting a number to the exponent field. -/
theorem shl_word (k : ℕ) : IntOp.shli .vector (BitVec.ofNat 32 k) 23#32 = BitVec.ofNat 32 (k * 2 ^ 23) := by
  unfold IntOp.shli
  rw [if_pos (by decide)]
  apply BitVec.eq_of_toNat_eq
  simp [BitVec.toNat_shiftLeft, Nat.shiftLeft_eq, Nat.mod_mul_mod]

/-- The product of the powers of the two halves of a small word is the power of the word. -/
theorem two_halves {e : BitVec 32} (h : Small e) :
    Ideal.ofBits .f32 (IntOp.shli .vector (IntOp.addi (IntOp.shrsi .vector e 1#32) 127#32) 23#32)
      * Ideal.ofBits .f32 (IntOp.shli .vector (IntOp.addi (IntOp.subi e (IntOp.shrsi .vector e 1#32)) 127#32) 23#32) = two e := by
  obtain ⟨k, rfl⟩ := h
  obtain ⟨h1, h2, h3⟩ := half_words k
  rw [h1, h2, shl_word, shl_word]
  show lift _ * lift _ = _
  rw [lift_eq _ (by omega), lift_eq _ (by omega), if_neg (by omega), if_neg (by omega), if_neg (by omega), if_neg (by omega)]
  unfold two
  rw [h3, ← EReal.coe_mul, ← zpow_add₀ (by norm_num)]
  congr 2
  push_cast; omega

/-- The power the other way round. -/
theorem pow_two_word (e : BitVec 32) : Ideal.pow (Ideal.ofBits .f32 0x40000000#32) ((e.toInt : ℝ) : EReal) = two e := by
  have h2 : Ideal.ofBits .f32 0x40000000#32 = ((2 : ℝ) : EReal) := by
    have := lift_eq 128 (by decide)
    norm_num at this
    exact this
  rw [h2, Ideal.pow_coe_coe]
  unfold two
  congr 1
  exact Real.rpow_intCast 2 _

/-- The search on words is the search on numbers. -/
theorem step_word (y : EReal) (b t : ℕ) :
    (if Ideal.ofBits .f32 (IntOp.shli .vector (IntOp.addi (BitVec.ofNat 32 b) (BitVec.ofNat 32 t)) 23#32) ≤ y then
      IntOp.addi (BitVec.ofNat 32 b) (BitVec.ofNat 32 t) else BitVec.ofNat 32 b) = BitVec.ofNat 32 (step y b t) := by
  rw [show IntOp.addi (BitVec.ofNat 32 b) (BitVec.ofNat 32 t) = BitVec.ofNat 32 (b + t) from (BitVec.ofNat_add b t).symm, shl_word]
  unfold step
  show (if lift (b + t) ≤ y then _ else _) = _
  split_ifs <;> rfl

/-- The exponent on words. -/
theorem expo_word (b : ℕ) (hb : b < 256) :
    Scalar.select (IntOp.ori (IntOp.cmpi .eq (BitVec.ofNat 32 b) 0#32) (IntOp.cmpi .eq (BitVec.ofNat 32 b) 255#32)) 0#32
      (IntOp.subi (BitVec.ofNat 32 b) 126#32) = if b = 0 ∨ b = 255 then 0#32 else BitVec.ofNat 32 b - 126#32 := by
  have h : ∀ b : Fin 256, Scalar.select (IntOp.ori (IntOp.cmpi .eq (BitVec.ofNat 32 b.val) 0#32) (IntOp.cmpi .eq (BitVec.ofNat 32 b.val) 255#32)) 0#32
      (IntOp.subi (BitVec.ofNat 32 b.val) 126#32) = if b.val = 0 ∨ b.val = 255 then 0#32 else BitVec.ofNat 32 b.val - 126#32 := by decide +kernel
  exact h ⟨b, hb⟩

/-- The power of the opposite word. -/
theorem toInt_neg {e : BitVec 32} (h : Small e) : (0#32 - e).toInt = -e.toInt := by
  obtain ⟨k, rfl⟩ := h
  rw [neg_words k, (half_words k).2.2, (half_words ⟨256 - k.val, by omega⟩).2.2]
  show (((256 - k.val : ℕ) : ℤ) - 128) = _
  omega

/-! ## Counting the powers -/

/-- The word of 126. -/
theorem ofBits_126 : Ideal.ofBits .f32 0x42FC0000#32 = ((126 : ℝ) : EReal) := by
  simp [Ideal.ofBits, Ideal.ieee, -EReal.coe_mul]
  norm_num

/-- The power `2 ^ (k - 126)` is the number with exponent field `k + 1`. -/
theorem power_k (k : Fin 254) : Ideal.pow (Ideal.ofBits .f32 0x40000000#32)
    ((((BitVec.ofNat 32 k.val).toInt : ℝ) : EReal) - Ideal.ofBits .f32 0x42FC0000#32) = lift (k.val + 1) := by
  have hk : (BitVec.ofNat 32 k.val).toInt = (k.val : ℤ) := by revert k; decide +kernel
  have h2 : Ideal.ofBits .f32 0x40000000#32 = ((2 : ℝ) : EReal) := by
    have := lift_eq 128 (by decide)
    norm_num at this
    exact this
  rw [ofBits_126, hk, ← EReal.coe_sub, h2, Ideal.pow_coe_coe, lift_eq _ (by omega), if_neg (by omega), if_neg (by omega)]
  congr 1
  rw [show (((k.val : ℤ) : ℝ) - 126) = (((k.val + 1 : ℕ) : ℤ) - 127 : ℤ) by push_cast; ring]
  exact Real.rpow_intCast 2 _

/-- The count of the powers of two that are at most a number. -/
theorem count_fold (y : EReal) :
    Finset.univ.fold IntOp.addi (0#32) (fun k : Fin 254 => if Ideal.pow (Ideal.ofBits .f32 0x40000000#32)
      (FloatOps.sitofp (F := Ideal) .f32 (BitVec.ofNat 32 k.val) - Ideal.ofBits .f32 0x42FC0000#32) ≤ y then 1#32 else 0#32)
      = BitVec.ofNat 32 (min (field y) 254) := by
  rw [← card_powers]
  have h := IndicatorCount.fold_addi_setWidth_eq_card (w := 32) (fun k : Fin 254 => BitVec.ofBool (decide (lift (k.val + 1) ≤ y))) Finset.univ
  have e : (fun k : Fin 254 => if Ideal.pow (Ideal.ofBits .f32 0x40000000#32)
      (FloatOps.sitofp (F := Ideal) .f32 (BitVec.ofNat 32 k.val) - Ideal.ofBits .f32 0x42FC0000#32) ≤ y then 1#32 else 0#32)
      = fun k : Fin 254 => (BitVec.ofBool (decide (lift (k.val + 1) ≤ y))).setWidth 32 := by
    funext k
    rw [show Ideal.pow (Ideal.ofBits .f32 0x40000000#32)
      (FloatOps.sitofp (F := Ideal) .f32 (BitVec.ofNat 32 k.val) - Ideal.ofBits .f32 0x42FC0000#32) = lift (k.val + 1) from power_k k]
    by_cases hc : lift (k.val + 1) ≤ y <;> simp [hc]
  rw [e, h]
  congr 2
  ext k
  by_cases hc : lift (k.val + 1) ≤ y <;> simp [hc]

/-- The exponent from the count is the exponent from the field. -/
theorem count_words : ∀ b : Fin 256,
    Scalar.select (IntOp.andi (IntOp.cmpi .sgt (BitVec.ofNat 32 (min b.val 254)) 0#32) (BitVec.ofBool (decide (b.val ≠ 255))))
      (IntOp.subi (BitVec.ofNat 32 (min b.val 254)) 126#32) 0#32
      = if b.val = 0 ∨ b.val = 255 then 0#32 else BitVec.ofNat 32 b.val - 126#32 := by decide +kernel

/-- The exponent by counting. -/
theorem count_expo (a y : EReal) : (if a = 0 then 0#32 else
    Scalar.select (IntOp.andi (IntOp.cmpi .sgt
        (Finset.univ.fold IntOp.addi (0#32) (fun k : Fin 254 => if Ideal.pow (Ideal.ofBits .f32 0x40000000#32)
          (FloatOps.sitofp (F := Ideal) .f32 (BitVec.ofNat 32 k.val) - Ideal.ofBits .f32 0x42FC0000#32) ≤ y then 1#32 else 0#32)) 0#32)
      (BitVec.ofBool (decide (y < Ideal.ofBits .f32 0x7F800000#32))))
      (IntOp.subi (Finset.univ.fold IntOp.addi (0#32) (fun k : Fin 254 => if Ideal.pow (Ideal.ofBits .f32 0x40000000#32)
          (FloatOps.sitofp (F := Ideal) .f32 (BitVec.ofNat 32 k.val) - Ideal.ofBits .f32 0x42FC0000#32) ≤ y then 1#32 else 0#32)) 126#32) 0#32)
      = expo a y := by
  have ht : Ideal.ofBits .f32 0x7F800000#32 = ⊤ := (lift_eq 255 (by decide)).trans (if_pos rfl)
  have hy : (decide (y < Ideal.ofBits .f32 0x7F800000#32)) = decide (field y ≠ 255) := by
    rw [ht]
    exact decide_eq_decide.2 (lt_top_iff_ne_top.trans (not_congr (field_top y)).symm)
  rw [count_fold, hy]
  unfold expo
  congr 1
  exact count_words ⟨field y, field_lt y⟩

/-- The power of a word and of its opposite, through numbers. -/
theorem pow_neg_word {e : BitVec 32} (h : Small e) :
    Ideal.pow (Ideal.ofBits .f32 0x40000000#32) (-((e.toInt : ℝ) : EReal)) = two (0#32 - e) := by
  rw [← pow_two_word, toInt_neg h]
  push_cast
  rfl

/-! ## The layer

  `x` the tokens, `n` the norm weight, `w` the weights' codes, `s` their scales, `p` the positions. -/

section
variable (x : Fin 96 → Fin 5120 → EReal) (n : Fin 5120 → EReal) (w : Fin 5120 → Fin 7680 → EReal) (s : Fin 7680 → EReal)
  (p : Fin 96 → BitVec 32)

/-- The normed token. -/
def normed (r : Fin 96) (l : Fin 5120) : EReal :=
  x r l * Ideal.rsqrt (Ideal.div (∑ k, x r k * x r k) (Ideal.ofBits .f32 0x45A00000#32) + Ideal.ofBits .f32 0x358637BD#32) * n l
/-- Its largest entry in absolute value, and that over 448. -/
def largest (r : Fin 96) : EReal :=
  Finset.univ.fold max (Ideal.ofBits .f32 0xFF800000#32) fun l => max (normed x n r l) (-(normed x n r l))
/-- A row's largest magnitude over the largest code. -/
def quot (r : Fin 96) : EReal := largest x n r * Ideal.ofBits .f32 0x3B124925#32
/-- The exponent of its scale. -/
def rowExpo (r : Fin 96) : BitVec 32 := expo (largest x n r) (quot x n r)
/-- Its scale. -/
def scale (r : Fin 96) : EReal := two (rowExpo x n r)
/-- Its codes. -/
def code (r : Fin 96) (l : Fin 5120) : EReal :=
  min (Ideal.ofBits .f32 0x43E00000#32) (max (Ideal.ofBits .f32 0xC3E00000#32) (normed x n r l * two (0#32 - rowExpo x n r)))
/-- The projected token. -/
def proj (r : Fin 96) (c : Fin 7680) : EReal := (∑ k, code x n r k * w k c) * scale x n r * s c
/-- The angle of a token's position at a pair of lanes. -/
def angle (r : Fin 96) (k : ℕ) : EReal :=
  (((p r).toInt : ℝ) : EReal) * Ideal.pow (Ideal.ofBits .f32 0x461C4000#32)
    (Ideal.div (-(Ideal.ofBits .f32 0x40000000#32 * ((k : ℝ) : EReal))) (Ideal.ofBits .f32 0x43000000#32))
/-- Lane `l` of the head whose columns start at `b`, turned by the token's position. -/
def turned (b : ℕ) (hb : b + 128 ≤ 7680) (r : Fin 96) (l : Fin 128) : EReal :=
  if hl : l.val < 64 then
    proj x n w s r ⟨b + l.val, by omega⟩ * Ideal.cos (angle p r l.val)
      - proj x n w s r ⟨b + (l.val + 64), by omega⟩ * Ideal.sin (angle p r l.val)
  else
    proj x n w s r ⟨b + l.val, by omega⟩ * Ideal.cos (angle p r (l.val - 64))
      + proj x n w s r ⟨b + (l.val - 64), by omega⟩ * Ideal.sin (angle p r (l.val - 64))
end

end Cert.Spec

end
-- ==== Proof.Ideal.Value.lean ====
/-
  The kernel's results, element by element, at the extended reals.
-/
module

public import proofs.«01_k».proof.Proof.Ideal.Pure
public import proofs.«01_k».proof.Proof.Spec

@[expose] public section

noncomputable section

namespace Cert.KernelIdeal.Hand

open Cert.KernelIdeal Cert.KernelIdeal.Gen Cert.Spec
open Idealize.ShloMosaic Idealize.ShloMosaic.TcCoe

/-- The operands as tables. -/
def rows (x : Vec Ideal S96x5120 .bf16) : Fin 96 → Fin 5120 → EReal := fun r l => x (ix2 r l)
def gain (n : Vec Ideal S1x5120 .f32) : Fin 5120 → EReal := fun l => n (ix2 0 l)
def cols (w : Vec Ideal S5120x7680 .fp8e4m3) : Fin 5120 → Fin 7680 → EReal := fun k c => w (ix2 k c)
def colScale (s : Vec Ideal S7680 .f32) : Fin 7680 → EReal := fun c => s (ix1 c)
def places (p : Vec Ideal S1x96 .i32) : Fin 96 → BitVec 32 := fun r => p (ix2 0 r)

/-! ## The quantiser -/

/-- One step of the search, at an element. -/
theorem qStep_at (y : FVec Ideal S32x128 .f32) (b : IVec S32x128 32) (t k : ℕ) (r : Fin 32) (l : Fin 128)
    (hb : b (ix2 r l) = BitVec.ofNat 32 k) :
    qStep y b (BitVec.ofNat 32 t) (ix2 r l) = BitVec.ofNat 32 (step (y (ix2 r l)) k t) := by
  pointwise [qStep, qPow]
  rw [hb, step_word]

/-- The exponent field that the search finds. -/
theorem qField_at (y : FVec Ideal S32x128 .f32) (r : Fin 32) (l : Fin 128) :
    qField y (ix2 r l) = BitVec.ofNat 32 (field (y (ix2 r l))) :=
  qStep_at y _ 1 _ r l <| qStep_at y _ 2 _ r l <| qStep_at y _ 4 _ r l <| qStep_at y _ 8 _ r l <| qStep_at y _ 16 _ r l <|
    qStep_at y _ 32 _ r l <| qStep_at y _ 64 _ r l <| qStep_at y _ 128 0 r l rfl

/-- The exponent before the test for a zero row. -/
theorem qExpo_at (y : FVec Ideal S32x128 .f32) (r : Fin 32) (l : Fin 128) : qExpo y (ix2 r l) = expoOf (y (ix2 r l)) := by
  have h : qExpo y (ix2 r l) = Scalar.select (IntOp.ori (IntOp.cmpi .eq (qField y (ix2 r l)) 0#32)
    (IntOp.cmpi .eq (qField y (ix2 r l)) 255#32)) 0#32 (IntOp.subi (qField y (ix2 r l)) 126#32) := rfl
  rw [h, qField_at]
  exact expo_word _ (field_lt _)

/-- The product of two half powers is the power of two. -/
theorem qTwo_at (e : IVec S32x128 32) (r : Fin 32) (l : Fin 128) (h : Small (e (ix2 r l))) :
    qTwo (F := Ideal) e (ix2 r l) = two (e (ix2 r l)) := by
  pointwise [qTwo, qPow]
  exact two_halves h

section
variable (x : Vec Ideal S96x5120 .bf16) (n : Vec Ideal S1x5120 .f32) (xb : Vec Ideal S32x5120 .bf16) (r' : Fin 32) (r : Fin 96)
  (hx : ∀ l, xb (ix2 r' l) = x (ix2 r l))
include hx

/-- The normalised activations of a block. -/
theorem pay1_at (l : Fin 5120) : k0_pay1 n xb (ix2 r' l) = normed (rows x) (gain n) r l := by
  pointwise [k0_pay1]
  simp only [hx]
  rfl

/-- A row's largest magnitude. -/
theorem pay2_at (l : Fin 128) : k0_pay2 n xb (ix2 r' l) = largest (rows x) (gain n) r := by
  pointwise [k0_pay2]
  simp only [pay1_at x n xb r' r hx]
  rfl

/-- A row's largest magnitude over the largest code. -/
theorem pay3_at (l : Fin 128) : k0_pay3 n xb (ix2 r' l) = quot (rows x) (gain n) r := by
  pointwise [k0_pay3]
  rw [pay2_at x n xb r' r hx]
  rfl

/-- A row's exponent. -/
theorem qE_at (l : Fin 128) : qE n xb (ix2 r' l) = rowExpo (rows x) (gain n) r := by
  pointwise [qE]
  rw [pay2_at x n xb r' r hx, qExpo_at, pay3_at x n xb r' r hx]
  rfl

/-- A row's scale. -/
theorem qScale_at (l : Fin 128) : qScale n xb (ix2 r' l) = scale (rows x) (gain n) r := by
  pointwise [qScale]
  rw [qTwo_at _ _ _ (by rw [qE_at x n xb r' r hx]; exact expo_small _ _), qE_at x n xb r' r hx]
  rfl

/-- A row's codes. -/
theorem qCodes_at (l : Fin 5120) : qCodes n xb (ix2 r' l) = code (rows x) (gain n) r l := by
  have he : (subi (broadcast S32x128 0#32) (qE n xb)) (ix2 r' 0) = 0#32 - rowExpo (rows x) (gain n) r := by
    rw [← qE_at x n xb r' r hx 0]; rfl
  pointwise [qCodes]
  rw [pay1_at x n xb r' r hx, qTwo_at _ _ _ (by rw [he]; exact small_neg (expo_small _ _)), he]
  rfl
end

section
variable (x : Vec Ideal S96x5120 .bf16) (n : Vec Ideal S1x5120 .f32)

/-- A row of a block is a row of the activations. -/
theorem xBlk_at (r : Fin 96) (b : Fin 3) (hb : b.val = r.val / 32) (r' : Fin 32) (hr : r'.val = r.val % 32) (l : Fin 5120) :
    xBlk x b (ix2 r' l) = x (ix2 r l) := by
  refine congrArg x (funext fun a => ?_)
  fin_cases a <;> apply Fin.ext
  · show 32 * b.val + 1 * r'.val = r.val; omega
  · show 0 + 1 * l.val = l.val; omega

/-- The codes of all rows. -/
theorem codesV_at (r : Fin 96) (l : Fin 5120) : codesV x n (ix2 r l) = code (rows x) (gain n) r l :=
  qCodes_at x n _ _ r (xBlk_at x r _ rfl _ rfl) l

/-- The scales of all rows, the same in each lane. -/
theorem scaleV_at (r : Fin 96) (l : Fin 128) : scaleV x n (ix2 r l) = scale (rows x) (gain n) r :=
  qScale_at x n _ _ r (xBlk_at x r _ rfl _ rfl) l

/-! ## Sums over a diagonal -/

/-- A sum against a diagonal mask is the diagonal element. -/
theorem diag_sum (f : Fin 96 → EReal) (r : Fin 96) :
    (∑ k : Fin 96, Scalar.select (IntOp.cmpi .eq (BitVec.ofNat 32 r.val) (BitVec.ofNat 32 k.val)) (f k) 0) = f r := by
  rw [Finset.sum_eq_single r]
  · simp [IntOp.cmpi, Scalar.select]
  · intro k _ hk
    have : BitVec.ofNat 32 r.val ≠ BitVec.ofNat 32 k.val := fun e => hk (Fin.ext (by
      have := congrArg BitVec.toNat e; simp only [BitVec.toNat_ofNat] at this; omega))
    unfold IntOp.cmpi Scalar.select
    rw [if_neg]
    show ¬ BitVec.ofBool (BitVec.ofNat 32 r.val == BitVec.ofNat 32 k.val) = 1#1
    rw [beq_eq_false_iff_ne.2 this]; decide
  · intro h; exact absurd (Finset.mem_univ _) h

theorem diag_sum' (f : Fin 96 → EReal) (r : Fin 96) :
    (∑ k : Fin 96, Scalar.select (IntOp.cmpi .eq (BitVec.ofNat 32 k.val) (BitVec.ofNat 32 r.val)) (f k) 0) = f r := by
  rw [← diag_sum f r]
  refine Finset.sum_congr rfl fun k _ => ?_
  show Scalar.select (BitVec.ofBool (BitVec.ofNat 32 k.val == BitVec.ofNat 32 r.val)) _ _
    = Scalar.select (BitVec.ofBool (BitVec.ofNat 32 r.val == BitVec.ofNat 32 k.val)) _ _
  rw [BEq.comm]

/-- The scales laid out as a row. -/
theorem aG_at (r : Fin 96) : aG x n (ix2 0 r) = scale (rows x) (gain n) r := by
  unfold aG
  pointwise [k0_pay48, k0_pay47]
  rw [diag_sum' (fun k => scaleV x n ((Rect.unit (s := S96x128) ![0, 0] S96x1.size inb_S96x128_S96x1_0_0).emb (ix2 k 0)))]
  rw [← scaleV_at x n r 0]
  refine congrArg (scaleV x n) (funext fun a => ?_)
  fin_cases a <;> apply Fin.ext
  · show 0 + 1 * r.val = r.val; omega
  · rfl

/-- A lane and its partner half a head away have one frequency. -/
theorem pair_word (l : Fin 128) : (Scalar.select (IntOp.cmpi .slt (BitVec.ofNat 32 l.val) 64#32) (BitVec.ofNat 32 l.val)
    (IntOp.subi (BitVec.ofNat 32 l.val) 64#32)).toInt = ((if l.val < 64 then l.val else l.val - 64 : ℕ) : ℤ) := by
  revert l; decide +kernel

/-- The pair of a lane. -/
def pair (l : Fin 128) : ℕ := if l.val < 64 then l.val else l.val - 64

/-- The angles of the rotation. -/
theorem pay49_at (p : Vec Ideal S1x96 .i32) (r : Fin 96) (l : Fin 128) :
    k0_pay49 (F := Ideal) p (ix2 r l) = angle (places p) r (pair l) := by
  pointwise [k0_pay49]
  refine congrArg₂ (· * ·) (diag_sum (fun k => FloatOps.sitofp (F := Ideal) FTy.f32 (p (ix2 0 k))) r) ?_
  rw [zero_sub]
  refine congrArg (fun z : EReal => Ideal.pow _ (Ideal.div (-(_ * z)) _)) ?_
  show (((BitVec.toInt _ : ℤ) : ℝ) : EReal) = _
  rw [pair_word]
  unfold pair
  norm_cast

/-- The cosines. -/
theorem pay50_at (p : Vec Ideal S1x96 .i32) (r : Fin 96) (l : Fin 128) :
    k0_pay50 (F := Ideal) p (ix2 r l) = Ideal.cos (angle (places p) r (pair l)) := by
  pointwise [k0_pay50]
  rw [pay49_at]

/-- The mask of the first half of the lanes. -/
theorem mask_word (l : Fin 128) : IntOp.cmpi .slt (BitVec.ofNat 32 l.val) 64#32 = if l.val < 64 then 1#1 else 0#1 := by
  revert l; decide +kernel

/-- The sines, negated in the first half of the lanes. -/
theorem pay53_at (p : Vec Ideal S1x96 .i32) (z : Ideal .f32) (hz : z = 0) (r : Fin 96) (l : Fin 128) :
    k0_pay53 (k0_pay51 (F := Ideal) p) k0_pay52 z (ix2 r l)
      = if l.val < 64 then -Ideal.sin (angle (places p) r (pair l)) else Ideal.sin (angle (places p) r (pair l)) := by
  pointwise [k0_pay53, k0_pay52, k0_pay51]
  rw [pay49_at, mask_word, hz, zero_sub]
  unfold Scalar.select
  split_ifs <;> first | rfl | (exfalso; revert ‹_ = _›; decide) | contradiction
end

section
variable (x : Vec Ideal S96x5120 .bf16) (n : Vec Ideal S1x5120 .f32) (w : Vec Ideal S5120x7680 .fp8e4m3) (s : Vec Ideal S7680 .f32)
  (p : Vec Ideal S1x96 .i32)

/-- The column where head `j` of column block `i` starts. -/
theorem col_le (i : Fin 15) (j : Fin 4) : 512 * i.val + 128 * j.val + 128 ≤ 7680 := by omega

/-- A head of the scaled product. -/
theorem headS_at (i : Fin 15) (j : Fin 4) (r : Fin 96) (l : Fin 128) :
    headS x n w s i j (ix2 r l) = proj (rows x) (gain n) (cols w) (colScale s) r ⟨512 * i.val + 128 * j.val + l.val, by omega⟩ := by
  unfold headS headT
  pointwise [k0_pay54]
  rw [scaleV_at]
  have hw : ∀ k : Fin 5120, wBlk w i (ix2 k ⟨128 * j.val + l.val, by omega⟩) = cols w k ⟨512 * i.val + 128 * j.val + l.val, by omega⟩ := by
    intro k
    refine congrArg w (funext fun a => ?_)
    fin_cases a <;> apply Fin.ext
    · show 0 + 1 * k.val = k.val; omega
    · show 512 * i.val + 1 * (128 * j.val + l.val) = 512 * i.val + 128 * j.val + l.val; omega
  have hs : s ((sR i j).emb (ix1 l)) = colScale s ⟨512 * i.val + 128 * j.val + l.val, by omega⟩ := by
    refine congrArg s (funext fun a => ?_)
    fin_cases a; apply Fin.ext
    show 512 * i.val + 128 * j.val + 1 * l.val = 512 * i.val + 128 * j.val + l.val; omega
  rw [hs]
  simp only [codesV_at, hw]
  rfl

/-- A head that is stored as it is. -/
theorem planeP_at (i : Fin 15) (j : Fin 4) (r : Fin 96) (l : Fin 128) :
    planeP x n w s i j (ix3 0 r l) = proj (rows x) (gain n) (cols w) (colScale s) r ⟨512 * i.val + 128 * j.val + l.val, by omega⟩ := by
  unfold planeP headP
  pointwise
  exact headS_at x n w s i j r l

/-- A head that is stored rotated. -/
theorem planeR_at (i : Fin 15) (j : Fin 4) (r : Fin 96) (l : Fin 128) :
    planeR x n p w s i j (ix3 0 r l)
      = turned (rows x) (gain n) (cols w) (colScale s) (places p) (512 * i.val + 128 * j.val) (col_le i j) r l := by
  unfold planeR headR
  pointwise
  rw [headS_at, headS_at, pay50_at, pay53_at p _ rfl]
  unfold turned pair
  split_ifs with hl
  · rw [mul_neg, ← sub_eq_add_neg]
    have : (l.val + 128 - 64) % 128 = l.val + 64 := by omega
    simp only [this]
  · have : (l.val + 128 - 64) % 128 = l.val - 64 := by omega
    simp only [this]

/-! ## The results -/

/-- The queries, head by head. -/
theorem qG_at (h : Fin 20) (r : Fin 96) (l : Fin 128) : qG x n p w s (ix3 h r l)
    = turned (rows x) (gain n) (cols w) (colScale s) (places p) (128 * h.val) (by omega) r l := by
  refine (planeR_at x n w s p ⟨0 + h.val / 4, by omega⟩ ⟨h.val % 4, by omega⟩ r l).trans ?_
  congr 1
  show 512 * (0 + h.val / 4) + 128 * (h.val % 4) = _; omega

/-- The keys, head by head. -/
theorem kG_at (h : Fin 20) (r : Fin 96) (l : Fin 128) : kG x n p w s (ix3 h r l)
    = turned (rows x) (gain n) (cols w) (colScale s) (places p) (2560 + 128 * h.val) (by omega) r l := by
  refine (planeR_at x n w s p ⟨5 + h.val / 4, by omega⟩ ⟨h.val % 4, by omega⟩ r l).trans ?_
  congr 1
  show 512 * (5 + h.val / 4) + 128 * (h.val % 4) = _; omega

/-- The values, head by head. -/
theorem vG_at (h : Fin 20) (r : Fin 96) (l : Fin 128) : vG x n w s (ix3 h r l)
    = proj (rows x) (gain n) (cols w) (colScale s) r ⟨5120 + 128 * h.val + l.val, by omega⟩ := by
  refine (planeP_at x n w s ⟨10 + h.val / 4, by omega⟩ ⟨h.val % 4, by omega⟩ r l).trans ?_
  congr 2
  show 512 * (10 + h.val / 4) + 128 * (h.val % 4) + l.val = _; omega
end

end Cert.KernelIdeal.Hand

end
-- ==== Proof.Results.lean ====
/-
  The five results as arrays, from the tables of the operands.
-/
module

public import proofs.«01_k».proof.Proof.Spec

@[expose] public section

noncomputable section

namespace Cert.Spec

open Idealize.ShloMosaic

variable (x : Fin 96 → Fin 5120 → EReal) (n : Fin 5120 → EReal) (w : Fin 5120 → Fin 7680 → EReal)
  (s : Fin 7680 → EReal) (p : Fin 96 → BitVec 32)

/-- The query, key and value heads. -/
def query (r : Fin 96) (h : Fin 20) (l : Fin 128) : EReal := turned x n w s p (128 * h.val) (by omega) r l
def key (r : Fin 96) (h : Fin 20) (l : Fin 128) : EReal := turned x n w s p (2560 + 128 * h.val) (by omega) r l
def value (r : Fin 96) (h : Fin 20) (l : Fin 128) : EReal := proj x n w s r ⟨5120 + 128 * h.val + l.val, by omega⟩

/-- A token's heads as an array with a unit axis for the sequence. -/
def heads (f : Fin 96 → Fin 20 → Fin 128 → EReal) : (⟨4, ![96, 1, 20, 128]⟩ : Shape).Idx → EReal := fun i => f (i 0) (i 2) (i 3)

/-- A token's row as an array with a unit axis for the sequence. -/
def lines {k : ℕ} (f : Fin 96 → Fin k → EReal) : (⟨3, ![96, 1, k]⟩ : Shape).Idx → EReal := fun i => f (i 0) (i 2)

/-- An array that agrees with a table of heads is that table as an array. -/
theorem eq_heads (g : (⟨4, ![96, 1, 20, 128]⟩ : Shape).Idx → EReal) (f : Fin 96 → Fin 20 → Fin 128 → EReal)
    (h : ∀ r j l, g (ix4 r 0 j l) = f r j l) : g = heads f := by
  funext i
  obtain ⟨r, o, j, l, rfl⟩ : ∃ (r : Fin 96) (o : Fin 1) (j : Fin 20) (l : Fin 128), i = ix4 r o j l := ⟨_, _, _, _, eq_ix4 i⟩
  rw [Subsingleton.elim o 0]
  exact h r j l

/-- An array that agrees with a table of rows is that table as an array. -/
theorem eq_lines {k : ℕ} (g : (⟨3, ![96, 1, k]⟩ : Shape).Idx → EReal) (f : Fin 96 → Fin k → EReal)
    (h : ∀ r l, g (ix3 r 0 l) = f r l) : g = lines f := by
  funext i
  obtain ⟨r, o, l, rfl⟩ : ∃ (r : Fin 96) (o : Fin 1) (l : Fin k), i = ix3 r o l := ⟨_, _, _, eq_ix3 i⟩
  rw [Subsingleton.elim o 0]
  exact h r l

end Cert.Spec

end
-- ==== Proof.Ideal.End.lean ====
/-
  How the kernel ends: its five results from the tables of its operands.
-/
module

public import proofs.«01_k».proof.Proof.Ideal.Run
public import proofs.«01_k».proof.Proof.Ideal.Value
public import proofs.«01_k».proof.Proof.Results
public import Idealize.ShloMosaic.Lib.Claim
public import Idealize.ShloMosaic.Lib.StableHlo.ReadAt

@[expose] public section

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (ρ : Dev nD → PrngReg) (c : Dev nD)

/-- The arguments as tables. -/
def rowsA : Fin 96 → Fin 5120 → EReal := fun r l => m ((c : Thread nD τ).loc main_arg0) (ix3 r 0 l)
def gainA : Fin 5120 → EReal := fun l => m ((c : Thread nD τ).loc main_arg1) (ix1 l)
def colsA : Fin 5120 → Fin 7680 → EReal := fun k j => m ((c : Thread nD τ).loc main_arg3) (ix2 k j)
def colScaleA : Fin 7680 → EReal := fun j => m ((c : Thread nD τ).loc main_arg4) (ix1 j)
def placesA : Fin 96 → BitVec 32 := fun r => m ((c : Thread nD τ).loc main_arg2) (ix2 r 0)

/-- The host lines before the region only reshape: the region finds the same tables. -/
theorem rows_eq : rows (V m c main_v0) = rowsA m c := by
  funext r l
  show V m c main_v0 (ix2 r l) = _
  unfold V
  after_reads_at
  rfl
/-- The same of the norm weight. -/
theorem gain_eq : gain (V m c main_v1) = gainA m c := by
  funext l
  show V m c main_v1 (ix2 0 l) = _
  unfold V
  after_reads_at
  rfl
/-- The same of the positions. -/
theorem places_eq : places (V m c main_v2) = placesA m c := by
  funext r
  show V m c main_v2 (ix2 0 r) = _
  unfold V
  after_reads_at
  rfl
/-- The same of the weights. -/
theorem cols_eq : cols (V m c main_arg3) = colsA m c := by rw [V_main_arg3]; rfl
/-- The same of the weights' scales. -/
theorem colScale_eq : colScale (V m c main_arg4) = colScaleA m c := by rw [V_main_arg4]; rfl

/-- The region's results at the end of the region. -/
theorem left (b : Ref sig .tc) (h : b ∈ R0) : Pipeline.withR (V0 m c) R0 c (G m c) (Proc.devRef .tc b) = G m c b :=
  Pipeline.withR_of_mem _ _ _ _ _ h

/-- The first result holds the queries. -/
theorem v5_at (r : Fin 96) (j : Fin 20) (l : Fin 128) :
    atEnd m c (Proc.devRef .tc main_v5) (ix4 r 0 j l) = query (rowsA m c) (gainA m c) (colsA m c) (colScaleA m c) (placesA m c) r j l := by
  unfold atEnd
  after_reads_at
  rw [left m c main_v3_0 (by decide), G_q, ← rows_eq, ← gain_eq, ← cols_eq, ← colScale_eq, ← places_eq]
  exact qG_at _ _ _ _ _ j r l

/-- The second result holds the keys. -/
theorem v7_at (r : Fin 96) (j : Fin 20) (l : Fin 128) :
    atEnd m c (Proc.devRef .tc main_v7) (ix4 r 0 j l) = key (rowsA m c) (gainA m c) (colsA m c) (colScaleA m c) (placesA m c) r j l := by
  unfold atEnd
  after_reads_at
  rw [left m c main_v3_1 (by decide), G_k, ← rows_eq, ← gain_eq, ← cols_eq, ← colScale_eq, ← places_eq]
  exact kG_at _ _ _ _ _ j r l

/-- The third result holds the values. -/
theorem v9_at (r : Fin 96) (j : Fin 20) (l : Fin 128) :
    atEnd m c (Proc.devRef .tc main_v9) (ix4 r 0 j l) = value (rowsA m c) (gainA m c) (colsA m c) (colScaleA m c) r j l := by
  unfold atEnd
  after_reads_at
  rw [left m c main_v3_2 (by decide), G_v, ← rows_eq, ← gain_eq, ← cols_eq, ← colScale_eq]
  exact vG_at _ _ _ _ j r l

/-- The fourth result holds the codes. -/
theorem v10_at (r : Fin 96) (l : Fin 5120) : atEnd m c (Proc.devRef .tc main_v10) (ix3 r 0 l) = code (rowsA m c) (gainA m c) r l := by
  unfold atEnd
  after_reads_at
  rw [left m c main_v3_3 (by decide), G_c, ← rows_eq, ← gain_eq]
  exact codesV_at _ _ r l

/-- The fifth result holds the scales. -/
theorem v11_at (r : Fin 96) : atEnd m c (Proc.devRef .tc main_v11) (ix3 r 0 0) = scale (rowsA m c) (gainA m c) r := by
  unfold atEnd
  after_reads_at
  rw [left m c main_v3_4 (by decide), G_a, ← rows_eq, ← gain_eq]
  exact aG_at _ _ r

/-- The kernel ends with its five results at the values the tables give, and its arguments as launched. -/
theorem ends : θ_run (defs (F := Ideal)) (onTc (τ := τ) (main (F := Ideal))) ⟨m, fun _ => 0, ρ⟩ (fun r => ∀ c : Dev nD,
      r.2.mem ((c.tc : Thread nD τ).loc main_v5) = heads (query (rowsA m c) (gainA m c) (colsA m c) (colScaleA m c) (placesA m c))
      ∧ r.2.mem ((c.tc : Thread nD τ).loc main_v7) = heads (key (rowsA m c) (gainA m c) (colsA m c) (colScaleA m c) (placesA m c))
      ∧ r.2.mem ((c.tc : Thread nD τ).loc main_v9) = heads (value (rowsA m c) (gainA m c) (colsA m c) (colScaleA m c))
      ∧ r.2.mem ((c.tc : Thread nD τ).loc main_v10) = lines (code (rowsA m c) (gainA m c))
      ∧ r.2.mem ((c.tc : Thread nD τ).loc main_v11) = lines (fun r (_ : Fin 1) => scale (rowsA m c) (gainA m c) r)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (frame m ρ))
  refine ⟨?_, ?_, ?_, ?_, ?_, h.2.1 c⟩
  · exact (h.1.1 c main_v5 (by decide)).trans (eq_heads _ _ fun r j l => v5_at m c r j l)
  · exact (h.1.1 c main_v7 (by decide)).trans (eq_heads _ _ fun r j l => v7_at m c r j l)
  · exact (h.1.1 c main_v9 (by decide)).trans (eq_heads _ _ fun r j l => v9_at m c r j l)
  · exact (h.1.1 c main_v10 (by decide)).trans (eq_lines _ _ fun r l => v10_at m c r l)
  · refine (h.1.1 c main_v11 (by decide)).trans (eq_lines _ _ fun r l => ?_)
    rw [Subsingleton.elim l 0]
    exact v11_at m c r

end Cert.KernelIdeal.Hand

end
-- ==== Proof.Ref.lean ====
/-
  The reference's results, element by element.
-/
module

public import proofs.«01_k».proof.Proof.Gen.ReferenceIdeal.Frame
public import proofs.«01_k».proof.Proof.Spec
public import Idealize.ShloMosaic.Lib.StableHlo.ReadAt
public import Idealize.ShloMosaic.Lib.Pipeline.ValueKit

@[expose] public section

noncomputable section

namespace Cert.ReferenceIdeal.Hand

open Cert.ReferenceIdeal Cert.ReferenceIdeal.Gen Cert.Spec
open Idealize.ShloMosaic Idealize.ShloMosaic.TcCoe

variable (m : (ℓ : Loc nD τ sig) → Buf (Elt Ideal) ℓ) (c : Dev nD)

/-- The operands as tables. -/
def rows : Fin 96 → Fin 5120 → EReal := fun r l => m ((c : Thread nD τ).loc main_arg0) (ix3 r 0 l)
def gain : Fin 5120 → EReal := fun l => m ((c : Thread nD τ).loc main_arg1) (ix1 l)
def cols : Fin 5120 → Fin 7680 → EReal := fun k j => m ((c : Thread nD τ).loc main_arg3) (ix2 k j)
def colScale : Fin 7680 → EReal := fun j => m ((c : Thread nD τ).loc main_arg4) (ix1 j)
def places : Fin 96 → BitVec 32 := fun r => m ((c : Thread nD τ).loc main_arg2) (ix2 r 0)

/-- The normalised activations. -/
theorem v14_at (r : Fin 96) (l : Fin 5120) : V m c main_v14 (ix2 r l) = normed (rows m c) (gain m c) r l := by
  unfold V
  after_reads_at
  rfl

/-- The exponents. -/
theorem v43_at (r : Fin 96) : V m c main_v43 (ix2 r 0) = rowExpo (rows m c) (gain m c) r := by
  unfold V
  after_reads_at
  simp only [id_eq]
  pointwise
  exact count_expo _ _

/-- The scales are powers of two. -/
theorem v46_eq : V m c main_v46 = fun j => Ideal.pow (Ideal.ofBits .f32 0x40000000#32) ((((V m c main_v43 j : BitVec 32).toInt : ℝ)) : EReal) := by
  funext j
  unfold V
  after_reads_simp
  rfl

/-- The inverse scales are powers of two. -/
theorem v49_eq : V m c main_v49 = fun j => Ideal.pow (Ideal.ofBits .f32 0x40000000#32) (-((((V m c main_v43 j : BitVec 32).toInt : ℝ)) : EReal)) := by
  funext j
  unfold V
  after_reads_simp
  rfl

/-- The scales. -/
theorem v46_at (r : Fin 96) : V m c main_v46 (ix2 r 0) = scale (rows m c) (gain m c) r := by
  rw [v46_eq]
  show Ideal.pow _ ((((V m c main_v43 (ix2 r 0) : BitVec 32).toInt : ℝ)) : EReal) = _
  rw [v43_at, pow_two_word]
  rfl

/-- The inverse scales. -/
theorem v49_at (r : Fin 96) : V m c main_v49 (ix2 r 0) = two (0#32 - rowExpo (rows m c) (gain m c) r) := by
  rw [v49_eq]
  show Ideal.pow _ (-((((V m c main_v43 (ix2 r 0) : BitVec 32).toInt : ℝ)) : EReal)) = _
  rw [v43_at]
  exact pow_neg_word (expo_small _ _)

/-! ## The region -/

/-- Each window has one block, the whole array. -/
theorem index_zero : ∀ t : Fin cfg0.N, win0_0.index t = ![0, 0] ∧ win0_1.index t = ![0, 0] ∧ win0_2.index t = ![0, 0]
    ∧ win0_3.index t = ![0, 0] ∧ win0_4.index t = ![0, 0] := by decide +kernel

/-- The region's first block is the whole array of normalised activations. -/
theorem iblk0 (t : Fin cfg0.N) (y : S96x5120.Idx) : iblk m c 0 t y = V m c main_v14 y := by
  blk_ext [iblk, (index_zero t).1]
/-- The region's second block is the whole array of inverse scales. -/
theorem iblk1 (t : Fin cfg0.N) (y : S96x1.Idx) : iblk m c 1 t y = V m c main_v49 y := by
  blk_ext [iblk, (index_zero t).2.1]
/-- The region's third block is the whole array of weights. -/
theorem iblk2 (t : Fin cfg0.N) (y : S5120x7680.Idx) : iblk m c 2 t y = V m c main_arg3 y := by
  blk_ext [iblk, (index_zero t).2.2.1]
/-- The block of codes is the whole array. -/
theorem emb3 (t : Fin cfg0.N) (y : S96x5120.Idx) : ((View.whole main_v50_0).slice (win0_3.rect t)).emb y = y := by
  blk_ext [(index_zero t).2.2.2.1]
/-- The block of the product is the whole array. -/
theorem emb4 (t : Fin cfg0.N) (y : S96x7680.Idx) : ((View.whole main_v50_1).slice (win0_4.rect t)).emb y = y := by
  blk_ext [(index_zero t).2.2.2.2]

/-- The codes that the region computes. -/
theorem pay1_at (t : Fin cfg0.N) (r : Fin 96) (l : Fin 5120) :
    k0_pay1 (F := Ideal) (iblk m c 0 t) (iblk m c 1 t) (ix2 r l) = code (rows m c) (gain m c) r l := by
  have h0 : (iblk m c 0 t : S96x5120.Idx → EReal) = V m c main_v14 := funext (iblk0 m c t)
  have h1 : (iblk m c 1 t : S96x1.Idx → EReal) = V m c main_v49 := funext (iblk1 m c t)
  rw [h0, h1]
  pointwise [k0_pay1]
  rw [v14_at, v49_at]
  rfl

/-- The product that the region computes. -/
theorem pay2_at (t : Fin cfg0.N) (r : Fin 96) (l : Fin 7680) :
    k0_pay2 (F := Ideal) (iblk m c 0 t) (iblk m c 1 t) (iblk m c 2 t) (ix2 r l) = ∑ k, code (rows m c) (gain m c) r k * cols m c k l := by
  have h2 : (iblk m c 2 t : S5120x7680.Idx → EReal) = V m c main_arg3 := funext (iblk2 m c t)
  rw [h2]
  pointwise [k0_pay2]
  simp only [pay1_at]
  rw [V_main_arg3]
  rfl

/-- The codes, as the region leaves them. -/
theorem codes_arr (r : Fin 96) (l : Fin 5120) : (dats m 0 c).arrAt 3 cfg0.N (ix2 r l) = code (rows m c) (gain m c) r l := by
  suffices h : (dats m 0 c).arrAt 3 cfg0.N = fun y => code (rows m c) (gain m c) (y 0) (y 1) from congrFun h _
  refine (dats m 0 c).arrAt_eq_of_covers 3 _ (by decide +kernel) fun t hf y => ?_
  blk_simp
  rw [after0_3]
  frame_out
  refine Eq.trans ?_ (congrArg (fun y : S96x5120.Idx => code (rows m c) (gain m c) (y 0) (y 1)) (emb3 t y).symm)
  exact (congrArg _ (eq_ix2 (show S96x5120.Idx from y))).trans (pay1_at m c t _ _)

/-- The product, as the region leaves it. -/
theorem acc_arr (r : Fin 96) (l : Fin 7680) : (dats m 0 c).arrAt 4 cfg0.N (ix2 r l) = ∑ k, code (rows m c) (gain m c) r k * cols m c k l := by
  suffices h : (dats m 0 c).arrAt 4 cfg0.N = fun y => ∑ k, code (rows m c) (gain m c) (y 0) k * cols m c k (y 1) from congrFun h _
  refine (dats m 0 c).arrAt_eq_of_covers 4 _ (by decide +kernel) fun t hf y => ?_
  blk_simp
  rw [after0_4]
  frame_out
  refine Eq.trans ?_ (congrArg (fun y : S96x7680.Idx => ∑ k, code (rows m c) (gain m c) (y 0) k * cols m c k (y 1)) (emb4 t y).symm)
  exact (congrArg _ (eq_ix2 (show S96x7680.Idx from y))).trans (pay2_at m c t _ _)

end Cert.ReferenceIdeal.Hand

end
-- ==== Proof.RefTail.lean ====
/-
  The reference's lines after its region, element by element.
-/
module

public import proofs.«01_k».proof.Proof.Gen.ReferenceIdeal.Frame
public import proofs.«01_k».proof.Proof.Spec
public import Idealize.ShloMosaic.Lib.StableHlo.ReadAt
public import Idealize.ShloMosaic.Lib.Pipeline.ValueKit

@[expose] public section

noncomputable section

namespace Cert.ReferenceIdeal.Hand

open Cert.ReferenceIdeal Cert.ReferenceIdeal.Gen Cert.Spec
open Idealize.ShloMosaic Idealize.ShloMosaic.TcCoe

section
variable (U : Valuation τ sig (Elt Ideal)) (x : Fin 96 → Fin 5120 → EReal) (n : Fin 5120 → EReal) (w : Fin 5120 → Fin 7680 → EReal)
  (s : Fin 7680 → EReal) (p : Fin 96 → BitVec 32)

/-- What the region leaves, with what it found: the scales, the product, the weights' scales, the positions. -/
structure Found : Prop where
  hs : ∀ r, (U (Proc.devRef .tc main_v46) : S96x1.Idx → EReal) (ix2 r 0) = scale x n r
  hacc : ∀ r l, (U (Proc.devRef .tc main_v50_1) : S96x7680.Idx → EReal) (ix2 r l) = ∑ k, code x n r k * w k l
  hw : ∀ l, (U (Proc.devRef .tc main_arg4) : S7680.Idx → EReal) (ix1 l) = s l
  hp : ∀ r, (U (Proc.devRef .tc main_arg2) : S96x1.Idx → BitVec 32) (ix2 r 0) = p r

variable (H : Found U x n w s p)
include H

/-- A column of the scaled product. -/
theorem part (r : Fin 96) (b d : ℕ) (hb : b < 7680) (hd : d < 7680) (e : b = d) :
    HMul.hMul (α := EReal) (β := EReal) (γ := EReal)
      (HMul.hMul (α := EReal) (β := EReal) (γ := EReal) (U (Proc.devRef .tc main_v50_1) (ix2 r ⟨b, hb⟩)) (U (Proc.devRef .tc main_v46) (ix2 r 0)))
      (U (Proc.devRef .tc main_arg4) (ix1 ⟨b, hb⟩)) = proj x n w s r ⟨d, hd⟩ := by
  subst e
  have e1 := H.hs r
  have e2 := H.hacc r ⟨b, hb⟩
  have e3 := H.hw ⟨b, hb⟩
  exact congrArg₂ (fun a b : EReal => a * b) (congrArg₂ (fun a b : EReal => a * b) e2 e1) e3

/-- A token's angle at a pair. -/
theorem angle_at (r : Fin 96) (k : ℕ) (hk : k < 64) :
    FloatOps.sitofp (F := Ideal) FTy.f32 ((U (Proc.devRef .tc main_arg2) : S96x1.Idx → BitVec 32) (ix2 r 0)) *
      Ideal.pow (Ideal.ofBits FTy.f32 0x461C4000#32)
        (Ideal.div (-(Ideal.ofBits FTy.f32 0x40000000#32 * FloatOps.sitofp (F := Ideal) FTy.f32 (BitVec.ofNat 32 k))) (Ideal.ofBits FTy.f32 0x43000000#32))
      = angle p r k := by
  have e : (BitVec.ofNat 32 k).toInt = (k : ℤ) := by
    have h : ∀ k : Fin 64, (BitVec.ofNat 32 k.val).toInt = (k.val : ℤ) := by decide +kernel
    exact h ⟨k, hk⟩
  have e' : FloatOps.sitofp (F := Ideal) FTy.f32 (BitVec.ofNat 32 k) = ((k : ℝ) : EReal) := by
    show (((BitVec.ofNat 32 k).toInt : ℝ) : EReal) = _
    rw [e]; norm_cast
  rw [e', H.hp]
  rfl

/-- The first result holds the queries. -/
theorem v95_at (r : Fin 96) (h : Fin 20) (l : Fin 128) :
    StableHlo.after (hostOps1 (F := Ideal)) U (Proc.devRef .tc main_v95) (ix4 r 0 h l)
      = turned x n w s p (128 * h.val) (by omega) r l := by
  after_reads_at
  unfold turned
  split_ifs with hl h3
  · after_reads_at
    refine congrArg₂ (· - ·) (congrArg₂ (· * ·) ?_ (congrArg Ideal.cos ?_)) (congrArg₂ (· * ·) ?_ (congrArg Ideal.sin ?_))
    exacts [part U x n w s p H r _ _ _ _ (by omega), angle_at U x n w s p H r _ hl, part U x n w s p H r _ _ _ _ (by omega), angle_at U x n w s p H r _ hl]
  · after_reads_at
    refine congrArg₂ (· + ·) (congrArg₂ (· * ·) ?_ (congrArg Ideal.cos ?_)) (congrArg₂ (· * ·) ?_ (congrArg Ideal.sin ?_))
    exacts [part U x n w s p H r _ _ _ _ (by omega), angle_at U x n w s p H r _ (by omega), part U x n w s p H r _ _ _ _ (by omega), angle_at U x n w s p H r _ (by omega)]
  · exact absurd rfl h3

/-- The second result holds the keys. -/
theorem v109_at (r : Fin 96) (h : Fin 20) (l : Fin 128) :
    StableHlo.after (hostOps1 (F := Ideal)) U (Proc.devRef .tc main_v109) (ix4 r 0 h l)
      = turned x n w s p (2560 + 128 * h.val) (by omega) r l := by
  after_reads_at
  unfold turned
  split_ifs with hl h3
  · after_reads_at
    refine congrArg₂ (· - ·) (congrArg₂ (· * ·) ?_ (congrArg Ideal.cos ?_)) (congrArg₂ (· * ·) ?_ (congrArg Ideal.sin ?_))
    exacts [part U x n w s p H r _ _ _ _ (by omega), angle_at U x n w s p H r _ hl, part U x n w s p H r _ _ _ _ (by omega), angle_at U x n w s p H r _ hl]
  · after_reads_at
    refine congrArg₂ (· + ·) (congrArg₂ (· * ·) ?_ (congrArg Ideal.cos ?_)) (congrArg₂ (· * ·) ?_ (congrArg Ideal.sin ?_))
    exacts [part U x n w s p H r _ _ _ _ (by omega), angle_at U x n w s p H r _ (by omega), part U x n w s p H r _ _ _ _ (by omega), angle_at U x n w s p H r _ (by omega)]
  · exact absurd rfl h3

/-- The third result holds the values. -/
theorem v110_at (r : Fin 96) (h : Fin 20) (l : Fin 128) :
    StableHlo.after (hostOps1 (F := Ideal)) U (Proc.devRef .tc main_v110) (ix4 r 0 h l)
      = proj x n w s r ⟨5120 + 128 * h.val + l.val, by omega⟩ := by
  after_reads_at
  exact part U x n w s p H r _ _ _ _ (by omega)
end

section
variable (U : Valuation τ sig (Elt Ideal))

/-- The fourth result is the array of codes, reshaped. -/
theorem v111_at (r : Fin 96) (l : Fin 5120) :
    StableHlo.after (hostOps1 (F := Ideal)) U (Proc.devRef .tc main_v111) (ix3 r 0 l)
      = (U (Proc.devRef .tc main_v50_0) : S96x5120.Idx → EReal) (ix2 r l) := by
  after_reads_at

/-- The fifth result is the array of scales, reshaped. -/
theorem v112_at (r : Fin 96) :
    StableHlo.after (hostOps1 (F := Ideal)) U (Proc.devRef .tc main_v112) (ix3 r 0 0)
      = (U (Proc.devRef .tc main_v46) : S96x1.Idx → EReal) (ix2 r 0) := by
  after_reads_at
end

end Cert.ReferenceIdeal.Hand

end
-- ==== Proof.RefEnd.lean ====
/-
  How the reference ends: its five results from the tables of its operands.
-/
module

public import proofs.«01_k».proof.Proof.Ref
public import proofs.«01_k».proof.Proof.RefTail
public import proofs.«01_k».proof.Proof.Results
public import Idealize.ShloMosaic.Lib.Claim

@[expose] public section

noncomputable section

namespace Cert.ReferenceIdeal.Hand

open Cert.ReferenceIdeal Cert.ReferenceIdeal.Gen Cert.Spec
open Idealize.ShloMosaic Idealize.ShloMosaic.TcCoe

variable (m : (ℓ : Loc nD τ sig) → Buf (Elt Ideal) ℓ) (ρ : Dev nD → PrngReg) (c : Dev nD)

/-- The buffers as the region leaves them. -/
def mid : Valuation τ sig (Elt Ideal) := Pipeline.withArrays spec0 c (V0 m c) fun w => (dats m 0 c).arrAt w cfg0.N

/-- The region leaves the codes. -/
theorem mid_codes (r : Fin 96) (l : Fin 5120) :
    (mid m c (Proc.devRef .tc main_v50_0) : S96x5120.Idx → EReal) (ix2 r l) = code (rows m c) (gain m c) r l :=
  (congrFun (Pipeline.withArrays_arr spec0 (by decide) c (V0 m c) _ 3) _).trans (codes_arr m c r l)

/-- The region leaves the scales as it found them. -/
theorem mid_scale (r : Fin 96) :
    (mid m c (Proc.devRef .tc main_v46) : S96x1.Idx → EReal) (ix2 r 0) = scale (rows m c) (gain m c) r :=
  (congrFun (Pipeline.withArrays_of_ne spec0 c (V0 m c) _ main_v46 (by decide)) _).trans (v46_at m c r)

/-- The region leaves the scales, the product, the weights' scales and the positions. -/
theorem found : Found (mid m c) (rows m c) (gain m c) (cols m c) (colScale m c) (places m c) where
  hs := mid_scale m c
  hacc r l := (congrFun (Pipeline.withArrays_arr spec0 (by decide) c (V0 m c) _ 4) _).trans (acc_arr m c r l)
  hw l := (congrFun (Pipeline.withArrays_of_ne spec0 c (V0 m c) _ main_arg4 (by decide)) _).trans (congrFun (V_main_arg4 m c) _)
  hp r := (congrFun (Pipeline.withArrays_of_ne spec0 c (V0 m c) _ main_arg2 (by decide)) _).trans (congrFun (V_main_arg2 m c) _)

/-- A buffer that is no array of the region ends as the host lines after the region leave it. -/
theorem reads {r : PUnit × MemSt nD τ sig (Elt Ideal)}
    (h : Pipeline.FramePost cfgs (dats m) 0 (Pipeline.afterTail₀ cfgs (dats m) 0 (V0 m) [hostOps1]) r)
    (b : Ref sig .tc) (hb : b ∈ Pipeline.restRefs sig spec0) :
    r.2.mem ((c.tc : Thread nD τ).loc b) = StableHlo.after (hostOps1 (F := Ideal)) (mid m c) (Proc.devRef .tc b) :=
  (h c).2 b hb

/-- The reference ends with its five results at the values the tables give, and its arguments as launched. -/
theorem ends : θ_run (defs (F := Ideal)) (onTc (τ := τ) (main (F := Ideal))) ⟨m, fun _ => 0, ρ⟩ (fun r => ∀ c : Dev nD,
      r.2.mem ((c.tc : Thread nD τ).loc main_v95) = heads (query (rows m c) (gain m c) (cols m c) (colScale m c) (places m c))
      ∧ r.2.mem ((c.tc : Thread nD τ).loc main_v109) = heads (key (rows m c) (gain m c) (cols m c) (colScale m c) (places m c))
      ∧ r.2.mem ((c.tc : Thread nD τ).loc main_v110) = heads (value (rows m c) (gain m c) (cols m c) (colScale m c))
      ∧ r.2.mem ((c.tc : Thread nD τ).loc main_v111) = lines (code (rows m c) (gain m c))
      ∧ r.2.mem ((c.tc : Thread nD τ).loc main_v112) = lines (fun r (_ : Fin 1) => scale (rows m c) (gain m c) r)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨?_, ?_, ?_, ?_, ?_, h.2 c⟩
  · exact (reads m c h.1 main_v95 (by decide)).trans (eq_heads _ _ fun r j l => v95_at _ _ _ _ _ _ (found m c) r j l)
  · exact (reads m c h.1 main_v109 (by decide)).trans (eq_heads _ _ fun r j l => v109_at _ _ _ _ _ _ (found m c) r j l)
  · exact (reads m c h.1 main_v110 (by decide)).trans (eq_heads _ _ fun r j l => v110_at _ _ _ _ _ _ (found m c) r j l)
  · exact (reads m c h.1 main_v111 (by decide)).trans (eq_lines _ _ fun r l => (v111_at _ r l).trans (mid_codes m c r l))
  · refine (reads m c h.1 main_v112 (by decide)).trans (eq_lines _ _ fun r l => ?_)
    rw [Subsingleton.elim l 0]
    exact (v112_at _ r).trans (mid_scale m c r)

end Cert.ReferenceIdeal.Hand

end
-- ==== Proof.Agree.lean ====
/-
  The kernel and the reference end with equal results.
-/
module

public import proofs.«01_k».proof.Defs
public import proofs.«01_k».proof.Proof.Ideal.End
public import proofs.«01_k».proof.Proof.RefEnd

@[expose] public section

noncomputable section

namespace Cert

open Idealize.ShloMosaic Idealize.ShloMosaic.TcCoe

/-- Launched on equal arguments, the kernel and the reference end with equal queries, keys, values, codes and scales, and with their
    arguments as launched. -/
theorem agree : algebraic_KernelIdeal_ReferenceIdeal (hKernelIdeal := KernelIdeal.Gen.facts) (hReferenceIdeal := ReferenceIdeal.Gen.facts) := by
  intro m g m' g' _ hm
  refine ⟨_, _, _, _, _, KernelIdeal.Hand.ends m g, ?_⟩
  refine (θ_run _ _ _).mono (fun r h c => ?_) (ReferenceIdeal.Hand.ends m' g')
  obtain ⟨a0, a1, a2, a3, a4⟩ := hm c
  have e0 : ReferenceIdeal.Hand.rows m' c = KernelIdeal.Hand.rowsA m c := funext fun r => funext fun l => congrFun a0 (ix3 r 0 l)
  have e1 : ReferenceIdeal.Hand.gain m' c = KernelIdeal.Hand.gainA m c := funext fun l => congrFun a1 (ix1 l)
  have e2 : ReferenceIdeal.Hand.places m' c = KernelIdeal.Hand.placesA m c := funext fun r => congrFun a2 (ix2 r 0)
  have e3 : ReferenceIdeal.Hand.cols m' c = KernelIdeal.Hand.colsA m c := funext fun k => funext fun j => congrFun a3 (ix2 k j)
  have e4 : ReferenceIdeal.Hand.colScale m' c = KernelIdeal.Hand.colScaleA m c := funext fun j => congrFun a4 (ix1 j)
  rw [← e0, ← e1, ← e2, ← e3, ← e4]
  exact h c

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Ideal.Run
public import proofs.«01_k».proof.Proof.Agree
public import Idealize.ShloMosaic.Adequacy
public import Idealize.ShloMosaic.Init

@[expose] public section

noncomputable section

namespace Cert.Proof

open Idealize.ShloMosaic Idealize.SL.Sem

/-- Every claim of the certificate: both readings of the kernel and the reference run to quiescence with their arguments unchanged,
    the idealized kernel is the kernel's own program, and it ends with the reference's five results. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, Cert.agree⟩

end Cert.Proof

end
